-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_kt" .f32 0x41200000#32 ((134217728 / 13421773 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x576x256 : Shape := ⟨3, ![16, 576, 256]⟩
abbrev S16x576 : Shape := ⟨2, ![16, 576]⟩
abbrev S1024x256 : Shape := ⟨2, ![1024, 256]⟩
abbrev S1024x1 : Shape := ⟨2, ![1024, 1]⟩
abbrev S16x1x576 : Shape := ⟨3, ![16, 1, 576]⟩
abbrev S16x576x1024 : Shape := ⟨3, ![16, 576, 1024]⟩
abbrev S4x576x256 : Shape := ⟨3, ![4, 576, 256]⟩
abbrev S4x1x576 : Shape := ⟨3, ![4, 1, 576]⟩
abbrev S4x576x1024 : Shape := ⟨3, ![4, 576, 1024]⟩
abbrev S1024 : Shape := ⟨1, ![1024]⟩
abbrev S256x256 : Shape := ⟨2, ![256, 256]⟩
abbrev S2304x256 : Shape := ⟨2, ![2304, 256]⟩
abbrev S2304 : Shape := ⟨1, ![2304]⟩
abbrev S2304x1 : Shape := ⟨2, ![2304, 1]⟩
abbrev S2304x1024 : Shape := ⟨2, ![2304, 1024]⟩

abbrev nBuf : Space → Nat
  | .hbm => 10
  | .vmem => 15
  | .smem => 0
  | _ => 0

abbrev bufTy : (tb : Table) → Fin (tcTables nBuf tb) → BufTy
  | .hbm, ⟨0, _⟩ => ⟨S16x576x256, .f32⟩
  | .hbm, ⟨1, _⟩ => ⟨S16x576, .f32⟩
  | .hbm, ⟨2, _⟩ => ⟨S1024x256, .f32⟩
  | .hbm, ⟨3, _⟩ => ⟨S1024x1, .f32⟩
  | .hbm, ⟨4, _⟩ => ⟨S1024x256, .f32⟩
  | .hbm, ⟨5, _⟩ => ⟨S16x576x256, .f32⟩
  | .hbm, ⟨6, _⟩ => ⟨S16x576x256, .f32⟩
  | .hbm, ⟨7, _⟩ => ⟨S16x1x576, .i32⟩
  | .hbm, ⟨8, _⟩ => ⟨S16x576x1024, .f32⟩
  | .hbm, ⟨9, _⟩ => ⟨S16x576, .i32⟩
  | .local _ .vmem, ⟨0, _⟩ => ⟨S4x576x256, .f32⟩
  | .local _ .vmem, ⟨1, _⟩ => ⟨S4x576x256, .f32⟩
  | .local _ .vmem, ⟨2, _⟩ => ⟨S1024x256, .f32⟩
  | .local _ .vmem, ⟨3, _⟩ => ⟨S1024x1, .f32⟩
  | .local _ .vmem, ⟨4, _⟩ => ⟨S1024x256, .f32⟩
  | .local _ .vmem, ⟨5, _⟩ => ⟨S4x576x256, .f32⟩
  | .local _ .vmem, ⟨6, _⟩ => ⟨S4x576x256, .f32⟩
  | .local _ .vmem, ⟨7, _⟩ => ⟨S4x576x256, .f32⟩
  | .local _ .vmem, ⟨8, _⟩ => ⟨S4x576x256, .f32⟩
  | .local _ .vmem, ⟨9, _⟩ => ⟨S4x1x576, .i32⟩
  | .local _ .vmem, ⟨10, _⟩ => ⟨S4x1x576, .i32⟩
  | .local _ .vmem, ⟨11, _⟩ => ⟨S4x576x1024, .f32⟩
  | .local _ .vmem, ⟨12, _⟩ => ⟨S4x576x1024, .f32⟩
  | .local _ .vmem, ⟨13, _⟩ => ⟨S1024x256, .f32⟩
  | .local _ .vmem, ⟨14, _⟩ => ⟨S1024x256, .f32⟩
  | _, _ => ⟨S16x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x576x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x576x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x576x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x576 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x576x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_kt" => some ((134217728 / 13421773 : ℝ) : EReal)
  | _ => none
-- ==== ReferenceIdeal.lean ====
abbrev S16x576x256 : Shape := ⟨3, ![16, 576, 256]⟩
abbrev S16x576 : Shape := ⟨2, ![16, 576]⟩
abbrev S1024x256 : Shape := ⟨2, ![1024, 256]⟩
abbrev S1024x1 : Shape := ⟨2, ![1024, 1]⟩
abbrev S_ : Shape := ⟨0, ![]⟩
abbrev S16x576x1 : Shape := ⟨3, ![16, 576, 1]⟩
abbrev S9216x256 : Shape := ⟨2, ![9216, 256]⟩
abbrev S1024 : Shape := ⟨1, ![1024]⟩
abbrev S256x1024 : Shape := ⟨2, ![256, 1024]⟩
abbrev S9216x1024 : Shape := ⟨2, ![9216, 1024]⟩
abbrev S9216 : Shape := ⟨1, ![9216]⟩
abbrev S9216x1 : Shape := ⟨2, ![9216, 1]⟩
abbrev S1024x64 : Shape := ⟨2, ![1024, 64]⟩
abbrev S1 : Shape := ⟨1, ![1]⟩
abbrev S1x1 : Shape := ⟨2, ![1, 1]⟩
abbrev S16x576x1024 : Shape := ⟨3, ![16, 576, 1024]⟩

abbrev nBuf : Space → Nat
  | .hbm => 149
  | .vmem => 0
  | .smem => 0
  | _ => 0

abbrev hbmTy0_0 (i : Nat) : BufTy := match i % 128 with
  | 0 => ⟨S16x576x256, .f32⟩
  | 1 => ⟨S16x576, .f32⟩
  | 2 => ⟨S1024x256, .f32⟩
  | 3 => ⟨S1024x1, .f32⟩
  | 4 => ⟨S1024x256, .f32⟩
  | 5 => ⟨S16x576x256, .f32⟩
  | 6 => ⟨S_, .f32⟩
  | 7 => ⟨S16x576, .f32⟩
  | 8 => ⟨S16x576x1, .f32⟩
  | 9 => ⟨S16x576x1, .f32⟩
  | 10 => ⟨S_, .f32⟩
  | 11 => ⟨S16x576x1, .f32⟩
  | 12 => ⟨S16x576x1, .f32⟩
  | 13 => ⟨S16x576x256, .f32⟩
  | 14 => ⟨S16x576x256, .f32⟩
  | 15 => ⟨S9216x256, .f32⟩
  | 16 => ⟨S1024x256, .f32⟩
  | 17 => ⟨S_, .f32⟩
  | 18 => ⟨S1024, .f32⟩
  | 19 => ⟨S1024x1, .f32⟩
  | 20 => ⟨S1024x1, .f32⟩
  | 21 => ⟨S_, .f32⟩
  | 22 => ⟨S1024x1, .f32⟩
  | 23 => ⟨S1024x1, .f32⟩
  | 24 => ⟨S1024x256, .f32⟩
  | 25 => ⟨S1024x256, .f32⟩
  | 26 => ⟨S_, .f32⟩
  | 27 => ⟨S_, .f32⟩
  | 28 => ⟨S_, .f32⟩
  | 29 => ⟨S1024x1, .f32⟩
  | 30 => ⟨S1024x1, .f32⟩
  | 31 => ⟨S_, .f32⟩
  | 32 => ⟨S1024x1, .f32⟩
  | 33 => ⟨S1024x1, .f32⟩
  | 34 => ⟨S1024x256, .f32⟩
  | 35 => ⟨S1024x256, .f32⟩
  | 36 => ⟨S256x1024, .f32⟩
  | 37 => ⟨S9216x1024, .f32⟩
  | 38 => ⟨S9216x1024, .i32⟩
  | 39 => ⟨S_, .f32⟩
  | 40 => ⟨S_, .i32⟩
  | 41 => ⟨S9216, .f32⟩
  | 42 => ⟨S9216, .i32⟩
  | 43 => ⟨S_, .f32⟩
  | 44 => ⟨S9216x1024, .f32⟩
  | 45 => ⟨S9216x1024, .f32⟩
  | 46 => ⟨S_, .f32⟩
  | 47 => ⟨S9216, .f32⟩
  | 48 => ⟨S_, .f32⟩
  | 49 => ⟨S9216, .f32⟩
  | 50 => ⟨S9216, .f32⟩
  | 51 => ⟨S9216x1, .f32⟩
  | 52 => ⟨S9216x1024, .f32⟩
  | 53 => ⟨S9216x1024, .f32⟩
  | 54 => ⟨S9216x1024, .f32⟩
  | 55 => ⟨S_, .f32⟩
  | 56 => ⟨S9216, .f32⟩
  | 57 => ⟨S9216x1, .f32⟩
  | 58 => ⟨S9216x1024, .f32⟩
  | 59 => ⟨S9216x1024, .f32⟩
  | 60 => ⟨S9216x1024, .i1⟩
  | 61 => ⟨S_, .f32⟩
  | 62 => ⟨S9216x1024, .f32⟩
  | 63 => ⟨S9216x1024, .f32⟩
  | 64 => ⟨S_, .f32⟩
  | 65 => ⟨S9216x1024, .f32⟩
  | 66 => ⟨S9216x1024, .i1⟩
  | 67 => ⟨S_, .f32⟩
  | 68 => ⟨S9216x1024, .f32⟩
  | 69 => ⟨S9216x1024, .f32⟩
  | 70 => ⟨S_, .f32⟩
  | 71 => ⟨S9216x1024, .f32⟩
  | 72 => ⟨S9216x1024, .i1⟩
  | 73 => ⟨S_, .f32⟩
  | 74 => ⟨S9216x1024, .f32⟩
  | 75 => ⟨S9216x1024, .f32⟩
  | 76 => ⟨S1024x64, .f32⟩
  | 77 => ⟨S1024x64, .f32⟩
  | 78 => ⟨S_, .f32⟩
  | 79 => ⟨S1024, .f32⟩
  | 80 => ⟨S1024x1, .f32⟩
  | 81 => ⟨S1024x1, .f32⟩
  | 82 => ⟨S_, .f32⟩
  | 83 => ⟨S1024x1, .f32⟩
  | 84 => ⟨S1024x1, .f32⟩
  | 85 => ⟨S1024x64, .f32⟩
  | 86 => ⟨S1024x64, .f32⟩
  | 87 => ⟨S1024x64, .f32⟩
  | 88 => ⟨S1024x64, .f32⟩
  | 89 => ⟨S_, .f32⟩
  | 90 => ⟨S1024, .f32⟩
  | 91 => ⟨S1024x1, .f32⟩
  | 92 => ⟨S1024x1, .f32⟩
  | 93 => ⟨S_, .f32⟩
  | 94 => ⟨S1024x1, .f32⟩
  | 95 => ⟨S1024x1, .f32⟩
  | 96 => ⟨S1024x64, .f32⟩
  | 97 => ⟨S1024x64, .f32⟩
  | 98 => ⟨S1024x64, .f32⟩
  | 99 => ⟨S1024x64, .f32⟩
  | 100 => ⟨S_, .f32⟩
  | 101 => ⟨S1024, .f32⟩
  | 102 => ⟨S1024x1, .f32⟩
  | 103 => ⟨S1024x1, .f32⟩
  | 104 => ⟨S_, .f32⟩
  | 105 => ⟨S1024x1, .f32⟩
  | 106 => ⟨S1024x1, .f32⟩
  | 107 => ⟨S1024x64, .f32⟩
  | 108 => ⟨S1024x64, .f32⟩
  | 109 => ⟨S1024x64, .f32⟩
  | 110 => ⟨S1024x64, .f32⟩
  | 111 => ⟨S_, .f32⟩
  | 112 => ⟨S1024, .f32⟩
  | 113 => ⟨S1024x1, .f32⟩
  | 114 => ⟨S1024x1, .f32⟩
  | 115 => ⟨S_, .f32⟩
  | 116 => ⟨S1024x1, .f32⟩
  | 117 => ⟨S1024x1, .f32⟩
  | 118 => ⟨S1024x64, .f32⟩
  | 119 => ⟨S1024x64, .f32⟩
  | 120 => ⟨S1024x256, .f32⟩
  | 121 => ⟨S9216x256, .f32⟩
  | 122 => ⟨S16x576x256, .f32⟩
  | 123 => ⟨S_, .i32⟩
  | 124 => ⟨S9216, .i32⟩
  | 125 => ⟨S9216, .i1⟩
  | 126 => ⟨S_, .i32⟩
  | 127 => ⟨S9216, .i32⟩
  | _ => ⟨S16x576x256, .f32⟩

abbrev hbmTy0_1 (i : Nat) : BufTy := match i % 128 with
  | 0 => ⟨S9216, .i32⟩
  | 1 => ⟨S9216, .i32⟩
  | 2 => ⟨S9216x1, .i32⟩
  | 3 => ⟨S1, .i32⟩
  | 4 => ⟨S_, .i32⟩
  | 5 => ⟨S9216x1, .i32⟩
  | 6 => ⟨S9216x1, .i1⟩
  | 7 => ⟨S1x1, .i32⟩
  | 8 => ⟨S9216x1, .i32⟩
  | 9 => ⟨S9216x1, .i1⟩
  | 10 => ⟨S9216x1, .i1⟩
  | 11 => ⟨S_, .i1⟩
  | 12 => ⟨S9216, .i1⟩
  | 13 => ⟨S9216x256, .f32⟩
  | 14 => ⟨S9216x256, .i1⟩
  | 15 => ⟨S_, .f32⟩
  | 16 => ⟨S9216x256, .f32⟩
  | 17 => ⟨S9216x256, .f32⟩
  | 18 => ⟨S16x576x256, .f32⟩
  | 19 => ⟨S16x576, .i32⟩
  | 20 => ⟨S16x576x1024, .f32⟩
  | _ => ⟨S16x576x256, .f32⟩

abbrev hbmTy (i : Nat) : BufTy := match i / 128 with
  | 0 => hbmTy0_0 i
  | 1 => hbmTy0_1 i
  | _ => ⟨S16x576x256, .f32⟩

abbrev bufTy : (tb : Table) → Fin (tcTables nBuf tb) → BufTy
  | .hbm, ⟨i, _⟩ => hbmTy i
  | _, _ => ⟨S16x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call3_v0 : Ref sig .tc := ⟨.hbm, 38, rfl⟩
abbrev main_call3_cst : Ref sig .tc := ⟨.hbm, 39, rfl⟩
abbrev main_call3_c : Ref sig .tc := ⟨.hbm, 40, rfl⟩
abbrev main_call3_v1_0 : Ref sig .tc := ⟨.hbm, 41, rfl⟩
abbrev main_v16 : Ref sig .tc := ⟨.hbm, 42, rfl⟩
abbrev main_cst_3 : Ref sig .tc := ⟨.hbm, 43, rfl⟩
abbrev main_v17 : Ref sig .tc := ⟨.hbm, 44, rfl⟩
abbrev main_v18 : Ref sig .tc := ⟨.hbm, 45, rfl⟩
abbrev main_cst_4 : Ref sig .tc := ⟨.hbm, 46, rfl⟩
abbrev main_v19 : Ref sig .tc := ⟨.hbm, 47, rfl⟩
abbrev main_cst_5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_6 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_call4_v0 : Ref sig .tc := ⟨.hbm, 60, rfl⟩
abbrev main_call4_cst : Ref sig .tc := ⟨.hbm, 61, rfl⟩
abbrev main_call4_call0_v0 : Ref sig .tc := ⟨.hbm, 62, rfl⟩
abbrev main_call4_v1 : Ref sig .tc := ⟨.hbm, 63, rfl⟩
abbrev main_call4_cst_0 : Ref sig .tc := ⟨.hbm, 64, rfl⟩
abbrev main_call4_v2 : Ref sig .tc := ⟨.hbm, 65, rfl⟩
abbrev main_call4_v3 : Ref sig .tc := ⟨.hbm, 66, rfl⟩
abbrev main_call4_cst_1 : Ref sig .tc := ⟨.hbm, 67, rfl⟩
abbrev main_call4_call1_v0 : Ref sig .tc := ⟨.hbm, 68, rfl⟩
abbrev main_call4_v4 : Ref sig .tc := ⟨.hbm, 69, rfl⟩
abbrev main_call4_cst_2 : Ref sig .tc := ⟨.hbm, 70, rfl⟩
abbrev main_call4_v5 : Ref sig .tc := ⟨.hbm, 71, rfl⟩
abbrev main_call4_v6 : Ref sig .tc := ⟨.hbm, 72, rfl⟩
abbrev main_call4_cst_3 : Ref sig .tc := ⟨.hbm, 73, rfl⟩
abbrev main_call4_call2_v0 : Ref sig .tc := ⟨.hbm, 74, rfl⟩
abbrev main_v30 : Ref sig .tc := ⟨.hbm, 75, rfl⟩
abbrev main_v31 : Ref sig .tc := ⟨.hbm, 76, rfl⟩
abbrev main_call5_v0 : Ref sig .tc := ⟨.hbm, 77, rfl⟩
abbrev main_call5_cst : Ref sig .tc := ⟨.hbm, 78, rfl⟩
abbrev main_call5_v1 : Ref sig .tc := ⟨.hbm, 79, rfl⟩
abbrev main_call5_v2 : Ref sig .tc := ⟨.hbm, 80, rfl⟩
abbrev main_v32 : Ref sig .tc := ⟨.hbm, 81, rfl⟩
abbrev main_cst_7 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_call6_v0 : Ref sig .tc := ⟨.hbm, 88, rfl⟩
abbrev main_call6_cst : Ref sig .tc := ⟨.hbm, 89, rfl⟩
abbrev main_call6_v1 : Ref sig .tc := ⟨.hbm, 90, rfl⟩
abbrev main_call6_v2 : Ref sig .tc := ⟨.hbm, 91, rfl⟩
abbrev main_v38 : Ref sig .tc := ⟨.hbm, 92, rfl⟩
abbrev main_cst_8 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_call7_v0 : Ref sig .tc := ⟨.hbm, 99, rfl⟩
abbrev main_call7_cst : Ref sig .tc := ⟨.hbm, 100, rfl⟩
abbrev main_call7_v1 : Ref sig .tc := ⟨.hbm, 101, rfl⟩
abbrev main_call7_v2 : Ref sig .tc := ⟨.hbm, 102, rfl⟩
abbrev main_v44 : Ref sig .tc := ⟨.hbm, 103, rfl⟩
abbrev main_cst_9 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_call8_v0 : Ref sig .tc := ⟨.hbm, 110, rfl⟩
abbrev main_call8_cst : Ref sig .tc := ⟨.hbm, 111, rfl⟩
abbrev main_call8_v1 : Ref sig .tc := ⟨.hbm, 112, rfl⟩
abbrev main_call8_v2 : Ref sig .tc := ⟨.hbm, 113, rfl⟩
abbrev main_v50 : Ref sig .tc := ⟨.hbm, 114, rfl⟩
abbrev main_cst_10 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_call9_c : Ref sig .tc := ⟨.hbm, 123, rfl⟩
abbrev main_call9_v0 : Ref sig .tc := ⟨.hbm, 124, rfl⟩
abbrev main_call9_v1 : Ref sig .tc := ⟨.hbm, 125, rfl⟩
abbrev main_call9_c_0 : Ref sig .tc := ⟨.hbm, 126, rfl⟩
abbrev main_call9_v2 : Ref sig .tc := ⟨.hbm, 127, rfl⟩
abbrev main_call9_v3 : Ref sig .tc := ⟨.hbm, 128, rfl⟩
abbrev main_call9_v4 : Ref sig .tc := ⟨.hbm, 129, rfl⟩
abbrev main_call9_v5 : Ref sig .tc := ⟨.hbm, 130, rfl⟩
abbrev main_call9_c_1 : Ref sig .tc := ⟨.hbm, 131, rfl⟩
abbrev main_call9_c_2 : Ref sig .tc := ⟨.hbm, 132, rfl⟩
abbrev main_call9_v6 : Ref sig .tc := ⟨.hbm, 133, rfl⟩
abbrev main_call9_v7 : Ref sig .tc := ⟨.hbm, 134, rfl⟩
abbrev main_call9_v8 : Ref sig .tc := ⟨.hbm, 135, rfl⟩
abbrev main_call9_v9 : Ref sig .tc := ⟨.hbm, 136, rfl⟩
abbrev main_call9_v10 : Ref sig .tc := ⟨.hbm, 137, rfl⟩
abbrev main_call9_v11 : Ref sig .tc := ⟨.hbm, 138, rfl⟩
abbrev main_call9_c_3 : Ref sig .tc := ⟨.hbm, 139, rfl⟩
abbrev main_call9_v12 : Ref sig .tc := ⟨.hbm, 140, rfl⟩
abbrev main_call9_v13 : Ref sig .tc := ⟨.hbm, 141, rfl⟩
abbrev main_call9_v14 : Ref sig .tc := ⟨.hbm, 142, rfl⟩
abbrev main_call9_cst : Ref sig .tc := ⟨.hbm, 143, rfl⟩
abbrev main_call9_v15 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩

abbrev nD : Nat := 1
abbrev τ : Topo := Topo.v7x

variable {F : FTy → Type} [FloatOps F]
-- ==== Proof.KernelPoints.lean ====
/- What the kernel's staging buffers and its two carried scratch buffers hold after each grid point: the scratch is filled at
   the first point from the keys, their scales and the values, and keeps those contents; every point's four output blocks are
   functions of its own block of queries and of that scratch. -/
module

public import proofs.«01_k».proof.Proof.Gen.KernelIdeal.Frame
public import Idealize.ShloMosaic.Lib.Pipeline.ValueKit

@[expose] public section

set_option maxRecDepth 16384

noncomputable section

namespace Cert.KernelIdeal.Points

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The scaled unit keys, as the first point stores them. -/
def keysOf (k : Vec Ideal S1024x256 .f32) (r : Vec Ideal S1024x1 .f32) : Vec Ideal S1024x256 .f32 := k0_pay3 k r

/-- The values with each chunk divided by its norm, as the first point stores them. -/
def codesOf (v : Vec Ideal S1024x256 .f32) : Vec Ideal S1024x256 .f32 := k0_pay6 v k0_pay4 k0_pay5

/-- The block of softly looked up values of a block of queries. -/
def softOf (x : Vec Ideal S4x576x256 .f32) (ks vs : Vec Ideal S1024x256 .f32) : Vec Ideal S4x576x256 .f32 :=
  k0_pay1 (k0_pay11 x ks) (k0_pay12 x ks) vs

/-- The block of values at the best key of each query. -/
def hardOf (x : Vec Ideal S4x576x256 .f32) (ks vs : Vec Ideal S1024x256 .f32) : Vec Ideal S4x576x256 .f32 :=
  k0_pay2 (iota .tc S2304x1024 32 [1] iota_S2304x1024_d1_w32) (k0_pay9 x ks) vs

/-- The first point (the only one whose number four divides): the scratch is computed there, the outputs over it. -/
theorem state_first (c : Dev nD) (t : Fin cfg0.N) (h0 : t.val % 4 = 0) :
    outsAt0 m c t.val t.isLt =
      (softOf (iblk m c 0 t) (keysOf (iblk m c 1 t) (iblk m c 2 t)) (codesOf (iblk m c 3 t)),
       hardOf (iblk m c 0 t) (keysOf (iblk m c 1 t) (iblk m c 2 t)) (codesOf (iblk m c 3 t)),
       k0_pay10 (iblk m c 0 t) (keysOf (iblk m c 1 t) (iblk m c 2 t)),
       k0_pay8 (iblk m c 0 t) (keysOf (iblk m c 1 t) (iblk m c 2 t)),
       keysOf (iblk m c 1 t) (iblk m c 2 t), codesOf (iblk m c 3 t)) := by
  rw [outsAt0_A m c t h0]
  frame_out
  rfl

/-- Every later point: the scratch is what the point before left, the outputs over it. -/
theorem state_next (c : Dev nD) (t : Fin cfg0.N) (h0 : ¬t.val % 4 = 0) :
    outsAt0 m c t.val t.isLt =
      (softOf (iblk m c 0 t) (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2,
       hardOf (iblk m c 0 t) (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2,
       k0_pay10 (iblk m c 0 t) (outsAt0 m c (t.val - 1) (Nat.lt_of_le_of_lt (Nat.sub_le _ _) t.isLt)).2.2.2.2.1,
       k0_pay8 (iblk m c 0 t) (outsAt0 m c (t.val - 1) (Nat.lt_of_le_of_lt (Nat.sub_le _ _) t.isLt)).2.2.2.2.1,
       (outsAt0 m c (t.val - 1) (Nat.lt_of_le_of_lt (Nat.sub_le _ _) t.isLt)).2.2.2.2.1,
       (outsAt0 m c (t.val - 1) (Nat.lt_of_le_of_lt (Nat.sub_le _ _) t.isLt)).2.2.2.2.2) := by
  rw [outsAt0_B m c t h0]
  generalize outsAt0 m c (t.val - 1) (Nat.lt_of_le_of_lt (Nat.sub_le _ _) t.isLt) = p
  frame_out
  have e0 : ∀ z, (View.whole cc0_scratch0).read (Elt Ideal) ((Memref.isWhole_whole cc0_scratch0).unread z) = z :=
    fun z => (Memref.isWhole_whole cc0_scratch0).read_unread z
  have e1 : ∀ z, (View.whole cc0_scratch1).read (Elt Ideal) ((Memref.isWhole_whole cc0_scratch1).unread z) = z :=
    fun z => (Memref.isWhole_whole cc0_scratch1).read_unread z
  rw [e0, e1]
  rfl

/-- The printed index maps, decided over the grid: the queries' and the four results' blocks are numbered by the point, the
    keys', the scales' and the values' block is the whole array at every point. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0]
    ∧ win0_6.index t = ![t.val, 0, 0] ∧ win0_7.index t = ![t.val, 0, 0] ∧ t.val < 4 :=
  (by decide +kernel : ∀ t : Fin grid0.N, _)

/-- Every point reads the whole array of keys. -/
theorem iblk_keys (c : Dev nD) (t : Fin cfg0.N) : iblk m c 1 t = m ((c : Thread nD τ).loc main_arg2) := by
  blk_ext! [iblk, V, idx t]

/-- Every point reads the whole array of scales. -/
theorem iblk_scales (c : Dev nD) (t : Fin cfg0.N) : iblk m c 2 t = m ((c : Thread nD τ).loc main_arg3) := by
  blk_ext! [iblk, V, idx t]

/-- Every point reads the whole array of values. -/
theorem iblk_values (c : Dev nD) (t : Fin cfg0.N) : iblk m c 3 t = m ((c : Thread nD τ).loc main_arg4) := by
  blk_ext! [iblk, V, idx t]

/-- The scaled unit keys of the argument arrays. -/
abbrev keysM (c : Dev nD) : Vec Ideal S1024x256 .f32 :=
  keysOf (m ((c : Thread nD τ).loc main_arg2)) (m ((c : Thread nD τ).loc main_arg3))

/-- The normalised values of the argument array. -/
abbrev codesM (c : Dev nD) : Vec Ideal S1024x256 .f32 := codesOf (m ((c : Thread nD τ).loc main_arg4))

/-- After every point, by induction on its number: the outputs' blocks and the scratch as functions of the point's block of
    queries and of the argument arrays. -/
theorem state (c : Dev nD) : ∀ (n : ℕ) (h : n < cfg0.N), outsAt0 m c n h =
    (softOf (iblk m c 0 ⟨n, h⟩) (keysM m c) (codesM m c), hardOf (iblk m c 0 ⟨n, h⟩) (keysM m c) (codesM m c),
     k0_pay10 (iblk m c 0 ⟨n, h⟩) (keysM m c), k0_pay8 (iblk m c 0 ⟨n, h⟩) (keysM m c), keysM m c, codesM m c)
  | 0, h => by
    rw [state_first m c ⟨0, h⟩ (Nat.zero_mod _), iblk_keys, iblk_scales, iblk_values]
  | n + 1, h => by
    have hn : n + 1 < 4 := (idx ⟨n + 1, h⟩).2.2.2.2.2.2.2.2
    rw [state_next m c ⟨n + 1, h⟩ (by show ¬(n + 1) % 4 = 0; omega)]
    have e : outsAt0 m c ((⟨n + 1, h⟩ : Fin cfg0.N).val - 1)
        (Nat.lt_of_le_of_lt (Nat.sub_le _ _) (⟨n + 1, h⟩ : Fin cfg0.N).isLt) = _ := state c n (Nat.lt_of_succ_lt h)
    rw [e]

end Cert.KernelIdeal.Points

end
-- ==== Proof.Rows.lean ====
/- Rows of extended reals: a row divided by its norm, scores, the softmax of a row. Everything here is about functions on
   finite index sets; no program occurs. -/
module

public import Idealize.ShloMosaic.PureOps.Ideal
public import Idealize.ShloMosaic.PureOps.Ideal.Laws
public import Idealize.ShloMosaic.Lib.IdealHost

@[expose] public section

noncomputable section

namespace Cert.Rows

open Idealize.ShloMosaic
open scoped BigOperators

/-- The least norm a row is divided by. -/
def eps : EReal := Ideal.ofBits .f32 730643660#32

/-- The temperature the reference divides the scores by. -/
def temp : EReal := Ideal.ofBits .f32 1036831949#32

/-- The pattern of minus infinity. -/
def lowest : EReal := Ideal.ofBits .f32 4286578688#32

/-- The pattern of plus infinity. -/
def highest : EReal := Ideal.ofBits .f32 2139095040#32

/-- The least norm is a real number, and positive. -/
theorem eps_eq : eps = ((9223372 / 2 ^ 63 : ℝ) : EReal) := by
  simp [eps, Ideal.ofBits, Ideal.ieee, -EReal.coe_mul]; norm_num

/-- The temperature is the fraction its pattern stands for. -/
theorem temp_eq : temp = ((13421773 / 134217728 : ℝ) : EReal) := by
  simp [temp, Ideal.ofBits, Ideal.ieee, -EReal.coe_mul]; norm_num

/-- The pattern of minus infinity is the least extended real. -/
theorem lowest_eq : lowest = ⊥ := by simp [lowest, Ideal.ofBits, Ideal.ieee]

/-- The pattern of plus infinity is the greatest extended real. -/
theorem highest_eq : highest = ⊤ := by simp [highest, Ideal.ofBits, Ideal.ieee]

/-- The least norm is positive. -/
theorem eps_pos : 0 < eps := by
  rw [eps_eq]; exact_mod_cast (by positivity : (0 : ℝ) < 9223372 / 2 ^ 63)

/-- An extended real that is a real number. -/
def IsReal (x : EReal) : Prop := ∃ r : ℝ, x = (r : EReal)

/-- A product of real numbers is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers, taken among the extended reals. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- A finite sum of real numbers is real. -/
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A number clipped to between zero and one is real. -/
theorem clip_real (x : EReal) : IsReal (min 1 (max 0 x)) := by
  have h0 : (0 : EReal) ≤ min 1 (max 0 x) := le_min zero_le_one (le_max_left _ _)
  have h1 : min 1 (max 0 x) ≤ (1 : EReal) := min_le_left _ _
  refine ⟨(min 1 (max 0 x)).toReal, (EReal.coe_toReal ?_ ?_).symm⟩
  · intro h; rw [h] at h1; exact absurd h1 (by decide)
  · intro h; rw [h] at h0; exact absurd h0 (by decide)

/-! ## A row divided by its norm -/

variable {n : Nat}

/-- The number a row is divided by: its Euclidean norm, or the least norm where that is larger. -/
def norm (f : Fin n → EReal) : EReal := max (Ideal.sqrt (∑ j, f j * f j)) eps

/-- The row divided by its norm. -/
def unit (f : Fin n → EReal) (k : Fin n) : EReal := Ideal.div (f k) (norm f)

/-- The number a row is divided by is positive. -/
theorem norm_pos (f : Fin n → EReal) : 0 < norm f := lt_max_of_lt_right eps_pos

/-- A square is not negative, infinities included. -/
theorem sq_nonneg (x : EReal) : 0 ≤ x * x := by
  induction x using EReal.rec with
  | bot => simp
  | top => simp
  | coe r => exact_mod_cast mul_self_nonneg r

/-- The norm of a row with an infinite entry is infinite. -/
theorem norm_top (f : Fin n → EReal) (k : Fin n) (h : f k = ⊤ ∨ f k = ⊥) : norm f = ⊤ := by
  have hk : f k * f k = ⊤ := by rcases h with h | h <;> rw [h] <;> simp
  have : (∑ j, f j * f j) = ⊤ :=
    top_le_iff.1 (hk ▸ Finset.single_le_sum (f := fun j => f j * f j) (fun j _ => sq_nonneg (f j)) (Finset.mem_univ k))
  rw [norm, this, Ideal.sqrt_top]; exact max_eq_left le_top

/-- Dividing by the norm is multiplying by its inverse: the norm is never zero. -/
theorem div_norm (f : Fin n → EReal) (x : EReal) : Ideal.div x (norm f) = x * (norm f)⁻¹ := by
  rw [Ideal.div, if_neg (norm_pos f).ne']

/-- Every entry of a row divided by its norm is a real number: where an entry is infinite the norm is, and the quotient
    is zero. -/
theorem unit_real (f : Fin n → EReal) (k : Fin n) : IsReal (unit f k) := by
  rw [unit, div_norm]
  by_cases ht : norm f = ⊤
  · rw [ht]; exact ⟨0, by simp⟩
  · have hb : norm f ≠ ⊥ := (lt_trans (by decide : (⊥ : EReal) < 0) (norm_pos f)).ne'
    have h1 : f k ≠ ⊤ := fun h => ht (norm_top f k (Or.inl h))
    have h2 : f k ≠ ⊥ := fun h => ht (norm_top f k (Or.inr h))
    refine IsReal.mul ⟨(f k).toReal, (EReal.coe_toReal h1 h2).symm⟩ ⟨(norm f).toReal⁻¹, ?_⟩
    rw [EReal.coe_inv, EReal.coe_toReal ht hb]

/-- Scaling before the division is scaling after it. -/
theorem mul_div_norm (f : Fin n → EReal) (x r : EReal) : x * Ideal.div r (norm f) = Ideal.div x (norm f) * r := by
  rw [div_norm, div_norm, mul_assoc, mul_comm r]

/-! ## Scores and value chunks -/

/-- A key's row divided by its norm and scaled by the key's scale, clipped to between zero and one. -/
def key (k : Fin n → EReal) (r : EReal) (q : Fin n) : EReal := unit k q * min 1 (max 0 r)

/-- The score of a query's row against a key. -/
def score (x k : Fin n → EReal) (r : EReal) : EReal := ∑ q, unit x q * key k r q

/-- Every score is a real number, whatever the rows hold. -/
theorem score_real (x k : Fin n → EReal) (r : EReal) : IsReal (score x k r) :=
  IsReal.sum _ fun q => (unit_real x q).mul ((unit_real k q).mul (clip_real r))

/-- The entry at `b` of a value row each of whose four chunks of 64 is divided by its norm. -/
def chunk (v : Fin 256 → EReal) (b : Fin 256) : EReal :=
  unit (fun j : Fin 64 => v ⟨b.val / 64 * 64 + j.val, by omega⟩) ⟨b.val % 64, Nat.mod_lt _ (by decide)⟩

/-- Every entry of a value row divided chunk by chunk is a real number. -/
theorem chunk_real (v : Fin 256 → EReal) (b : Fin 256) : IsReal (chunk v b) := unit_real _ _

/-! ## The softmax of a row -/

/-- The scores over the temperature, less the largest of them, exponentiated. -/
def expo (s : Fin n → EReal) (l : Fin n) : EReal :=
  Ideal.exp (Ideal.div (s l) temp - max lowest (Finset.univ.fold max lowest fun q => Ideal.div (s q) temp))

/-- The softmax weight. -/
def weight (s : Fin n → EReal) (l : Fin n) : EReal := Ideal.div (expo s l) (∑ q, expo s q)

/-- The constant the kernel multiplies the scores by. -/
def invTemp : EReal := ((134217728 / 13421773 : ℝ) : EReal)

/-- Dividing by the temperature is multiplying by its reciprocal. -/
theorem div_temp (x : EReal) : Ideal.div x temp = x * invTemp := by
  rw [temp_eq, Ideal.div_coe (by norm_num), invTemp]; norm_num

/-- The largest of finitely many real numbers, of at least one, is real. -/
theorem top_real (l : Fin n) {f : Fin n → EReal} (h : ∀ q, IsReal (f q)) :
    IsReal (max lowest (Finset.univ.fold max lowest f)) := by
  rw [lowest_eq, max_eq_right bot_le]
  have h1 : Finset.univ.fold max ⊥ f ≠ ⊤ := by
    refine ne_of_lt ((Finset.fold_max_lt (c := ⊤)).2 ⟨by decide, fun q _ => ?_⟩)
    obtain ⟨r, hr⟩ := h q; rw [hr]; exact EReal.coe_lt_top r
  have h2 : Finset.univ.fold max ⊥ f ≠ ⊥ := by
    refine ne_of_gt ((Finset.lt_fold_max (c := ⊥)).2 (Or.inr ⟨l, Finset.mem_univ l, ?_⟩))
    obtain ⟨r, hr⟩ := h l; rw [hr]; exact EReal.bot_lt_coe r
  exact ⟨_, (EReal.coe_toReal h1 h2).symm⟩

/-- The reals behind a row's exponentials: those of the kernel times one positive factor. -/
theorem expo_eq (s : Fin n → EReal) (h : ∀ q, IsReal (s q)) (l : Fin n) :
    ∃ (σ : Fin n → ℝ) (c : ℝ), 0 < c ∧ (∀ q, 0 < σ q) ∧ (∀ q, Ideal.exp (s q * invTemp) = (σ q : EReal)) ∧
      ∀ q, expo s q = ((σ q * c : ℝ) : EReal) := by
  choose g hg using h
  obtain ⟨M, hM⟩ := top_real l (f := fun q => Ideal.div (s q) temp) fun q => ⟨g q * (134217728 / 13421773), by
    rw [div_temp, hg q, invTemp, EReal.coe_mul]⟩
  refine ⟨fun q => Real.exp (g q * (134217728 / 13421773)), Real.exp (-M), Real.exp_pos _, fun q => Real.exp_pos _,
    fun q => ?_, fun q => ?_⟩
  · rw [hg q, invTemp, ← EReal.coe_mul, Ideal.exp_coe]
  · rw [expo, hM, div_temp, hg q, invTemp, ← EReal.coe_mul, ← EReal.coe_sub, Ideal.exp_coe, ← Real.exp_add, sub_eq_add_neg]

/-- A softmax weight is a real number: the kernel's exponential over the sum of them. -/
theorem weight_eq (s : Fin n → EReal) (h : ∀ q, IsReal (s q)) (l : Fin n) :
    ∃ σ : Fin n → ℝ, 0 < ∑ q, σ q ∧ (∀ q, Ideal.exp (s q * invTemp) = (σ q : EReal)) ∧
      ∀ q, weight s q = ((σ q * (1 / ∑ p, σ p) : ℝ) : EReal) := by
  obtain ⟨σ, c, hc, hσ, h1, h2⟩ := expo_eq s h l
  have hpos : 0 < ∑ q, σ q := Finset.sum_pos (fun q _ => hσ q) ⟨l, Finset.mem_univ l⟩
  refine ⟨σ, hpos, h1, fun q => ?_⟩
  have e : (∑ p, expo s p) = (((∑ p, σ p) * c : ℝ) : EReal) := by
    rw [Finset.sum_congr rfl fun p _ => h2 p, ← coe_sum, Finset.sum_mul]
  rw [weight, e, h2 q, Ideal.div_coe (mul_pos hpos hc).ne', ← EReal.coe_mul]
  congr 1
  field_simp

/-- Every softmax weight of a row of real scores is a real number. -/
theorem weight_real (s : Fin n → EReal) (h : ∀ q, IsReal (s q)) (l : Fin n) : IsReal (weight s l) := by
  obtain ⟨σ, _, _, h2⟩ := weight_eq s h l
  exact ⟨_, h2 l⟩

/-- The weighted sum of real values: dividing the sum once is dividing every weight. -/
theorem soft_eq (s : Fin n → EReal) (h : ∀ q, IsReal (s q)) (l : Fin n) (v : Fin n → EReal) (hv : ∀ q, IsReal (v q)) :
    Ideal.div (∑ y, Ideal.exp (s y * invTemp) * v y) (∑ y, Ideal.exp (s y * invTemp)) = ∑ y, weight s y * v y := by
  obtain ⟨σ, hpos, h1, h2⟩ := weight_eq s h l
  choose g hg using hv
  rw [Finset.sum_congr rfl fun y _ => (show Ideal.exp (s y * invTemp) * v y = ((σ y * g y : ℝ) : EReal) by
      rw [h1, hg, EReal.coe_mul]),
    Finset.sum_congr rfl fun y _ => h1 y,
    Finset.sum_congr rfl fun y _ => (show weight s y * v y = ((σ y * (1 / ∑ p, σ p) * g y : ℝ) : EReal) by
      rw [h2, hg, ← EReal.coe_mul]),
    ← coe_sum, ← coe_sum, ← coe_sum, Ideal.div_coe hpos.ne', ← EReal.coe_mul, Finset.sum_mul]
  congr 1
  exact Finset.sum_congr rfl fun y _ => by ring

end Cert.Rows

end
-- ==== Proof.Best.lean ====
/- The first position of the largest entry of a row, found in two ways: the least position among those that hold the row's
   maximum, and a fold that keeps the better of two (value, position) pairs. -/
module

public import proofs.«01_k».proof.Proof.Rows
public import Idealize.ShloMosaic.PureOps.Float

@[expose] public section

noncomputable section

namespace Cert.Rows

open Idealize.ShloMosaic

variable {n : Nat}

/-- `b` is the first position of the largest entry of `s`. -/
def IsBest (s : Fin n → EReal) (b : Fin n) : Prop := (∀ l, s l ≤ s b) ∧ ∀ l, s l = s b → b ≤ l

/-- Every row of at least one entry has a first position of its largest entry. -/
theorem exists_best (s : Fin n → EReal) (z : Fin n) : ∃ b, IsBest s b := by
  classical
  obtain ⟨m, -, hm⟩ := Finset.exists_max_image Finset.univ s ⟨z, Finset.mem_univ z⟩
  obtain ⟨b, hb, hmin⟩ := Finset.exists_min_image (Finset.univ.filter fun l => s l = s m) id ⟨m, by simp⟩
  have e : s b = s m := (Finset.mem_filter.1 hb).2
  exact ⟨b, fun l => e ▸ hm l (Finset.mem_univ l), fun l hl => hmin l (by simp [hl, e])⟩

/-- The maximum of a row folded from minus infinity is the entry at the first position of the largest. -/
theorem fold_max_best (s : Fin n → EReal) (b : Fin n) (h : IsBest s b) : Finset.univ.fold max lowest s = s b := by
  rw [lowest_eq]
  exact le_antisymm (Finset.fold_max_le _ |>.2 ⟨bot_le, fun l _ => h.1 l⟩)
    (Finset.le_fold_max _ |>.2 (Or.inr ⟨b, Finset.mem_univ b, le_rfl⟩))

/-- A small position's word read as a signed number is the position. -/
theorem word_toInt (l : Nat) (h : l < 2 ^ 31) : (BitVec.ofNat 32 l).toInt = (l : Int) := by
  have e : (BitVec.ofNat 32 l).toNat = l := by rw [BitVec.toNat_ofNat]; omega
  rw [BitVec.toInt_eq_toNat_of_lt (by omega), e]

/-- The lesser of two words, read as signed, is the lesser of their values. -/
theorem minsi_toInt (x y : BitVec 32) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

/-- A fold of the signed minimum, read as a signed number, is the fold of the minimum. -/
theorem fold_minsi_toInt {ι : Type} (S : Finset ι) (c : BitVec 32) (f : ι → BitVec 32)
    [Std.Commutative (IntOp.minsi (w := 32))] [Std.Associative (IntOp.minsi (w := 32))] :
    (S.fold IntOp.minsi c f).toInt = S.fold min c.toInt fun i => (f i).toInt := by
  classical
  induction S using Finset.induction with
  | empty => simp
  | insert a S ha ih => rw [Finset.fold_insert ha, Finset.fold_insert ha, minsi_toInt, ih]

/-- The least position among those that hold the row's maximum, the others counted as 1024, is the first position of the
    largest entry. -/
theorem least_hit (s : Fin 1024 → EReal) (b : Fin 1024) (h : IsBest s b)
    [Std.Commutative (IntOp.minsi (w := 32))] [Std.Associative (IntOp.minsi (w := 32))] :
    (Finset.univ.fold IntOp.minsi 2147483647#32 fun l : Fin 1024 =>
      if s l = Finset.univ.fold max lowest s then BitVec.ofNat 32 l.val else 1024#32) = BitVec.ofNat 32 b.val := by
  classical
  rw [fold_max_best s b h]
  refine BitVec.eq_of_toInt_eq ?_
  rw [fold_minsi_toInt, word_toInt b.val (by omega)]
  refine le_antisymm (Finset.fold_min_le _ |>.2 (Or.inr ⟨b, Finset.mem_univ b, ?_⟩))
    (Finset.le_fold_min _ |>.2 ⟨?_, fun l _ => ?_⟩)
  · rw [if_pos rfl, word_toInt b.val (by omega)]
  · have : (2147483647#32 : BitVec 32).toInt = 2147483647 := by decide
    omega
  · by_cases e : s l = s b
    · rw [if_pos e, word_toInt l.val (by omega)]
      have := h.2 l e
      exact_mod_cast Fin.le_def.1 this
    · rw [if_neg e]
      have : (1024#32 : BitVec 32).toInt = 1024 := by decide
      omega

/-! ## The fold over pairs -/

/-- The pair `p` is at least as good as `q`: a larger value, or the same value at no later a position. -/
def Beats (p q : EReal × BitVec 32) : Prop := q.1 < p.1 ∨ (p.1 = q.1 ∧ p.2.toInt ≤ q.2.toInt)

/-- Being at least as good is transitive. -/
theorem Beats.trans {p q r : EReal × BitVec 32} (h : Beats p q) (k : Beats q r) : Beats p r := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

/-- Every pair is at least as good as itself. -/
theorem Beats.refl (p : EReal × BitVec 32) : Beats p p := Or.inr ⟨rfl, le_rfl⟩

/-- A step that returns one of its two pairs, and one as good as both, folded over a list leaves a pair of the list or the
    one it started from, as good as all of them. -/
theorem foldl_beats (f : EReal × BitVec 32 → EReal × BitVec 32 → EReal × BitVec 32)
    (hf : ∀ p q, (f p q = p ∨ f p q = q) ∧ Beats (f p q) p ∧ Beats (f p q) q) (L : List (EReal × BitVec 32))
    (z : EReal × BitVec 32) :
    (L.foldl f z = z ∨ L.foldl f z ∈ L) ∧ Beats (L.foldl f z) z ∧ ∀ q ∈ L, Beats (L.foldl f z) q := by
  induction L generalizing z with
  | nil => exact ⟨Or.inl rfl, Beats.refl z, fun q hq => absurd hq (by simp)⟩
  | cons a L ih =>
    obtain ⟨h1, h2, h3⟩ := ih (f z a)
    obtain ⟨g1, g2, g3⟩ := hf z a
    rw [List.foldl_cons]
    refine ⟨?_, h2.trans g2, fun q hq => ?_⟩
    · rcases h1 with h1 | h1
      · rw [h1]
        rcases g1 with g1 | g1
        · exact Or.inl g1
        · rw [g1]; exact Or.inr (by simp)
      · exact Or.inr (List.mem_cons_of_mem _ h1)
    · rcases List.mem_cons.1 hq with rfl | hq
      · exact h2.trans g3
      · exact h3 q hq

/-- The fold of such a step over a row's (value, position) pairs, from minus infinity at position zero, ends at the first
    position of the largest entry. -/
theorem foldl_best (f : EReal × BitVec 32 → EReal × BitVec 32 → EReal × BitVec 32)
    (hf : ∀ p q, (f p q = p ∨ f p q = q) ∧ Beats (f p q) p ∧ Beats (f p q) q) (L : List (EReal × BitVec 32))
    (s : Fin 1024 → EReal) (hL : ∀ p, p ∈ L ↔ ∃ l, p = (s l, BitVec.ofNat 32 l.val)) (b : Fin 1024) (h : IsBest s b) :
    (L.foldl f (lowest, 0#32)).2 = BitVec.ofNat 32 b.val := by
  obtain ⟨h1, h2, h3⟩ := foldl_beats f hf L (lowest, 0#32)
  generalize L.foldl f (lowest, 0#32) = r at h1 h2 h3
  have hb := h3 _ ((hL _).2 ⟨b, rfl⟩)
  rcases h1 with rfl | h1
  · rcases hb with hb | ⟨hb, hp⟩
    · rw [lowest_eq] at hb; exact absurd hb (by simp)
    · have h0 : s 0 = s b := le_antisymm (h.1 0) (by
        have hb' : lowest = s b := hb
        rw [← hb', lowest_eq]; exact bot_le)
      have := h.2 0 h0
      have e : b = 0 := le_antisymm this (Fin.zero_le b)
      rw [e]; rfl
  · obtain ⟨l, rfl⟩ := (hL _).1 h1
    rcases hb with hb | ⟨hb, hp⟩
    · exact absurd hb (not_lt.2 (h.1 l))
    · have hbl := h.2 l hb
      simp only [word_toInt l.val (by omega), word_toInt b.val (by omega)] at hp
      have : l = b := le_antisymm (Fin.le_def.2 (by exact_mod_cast hp)) hbl
      rw [this]

end Cert.Rows

end
-- ==== Proof.KernelRead.lean ====
/- What the kernel computes at one grid point, read at an index: every entry is a function of rows (Rows.lean, Best.lean). -/
module

public import proofs.«01_k».proof.Proof.KernelPoints
public import proofs.«01_k».proof.Proof.Best
public import Idealize.ShloMosaic.Lib.Pointwise

@[expose] public section

set_option maxRecDepth 16384

noncomputable section

namespace Cert.KernelIdeal.Read

open Cert.KernelIdeal Cert.KernelIdeal.Gen Cert.KernelIdeal.Points Cert.Rows Idealize.ShloMosaic Idealize.ShloMosaic.TcCoe Idealize.SL.Sem

/-- A scaled key: the kernel scales by the clipped scale over the norm. -/
theorem keysOf_at (k : FVec Ideal S1024x256 .f32) (r : FVec Ideal S1024x1 .f32) (a : Fin 1024) (b : Fin 256) :
    keysOf k r (ix2 a b) = key (fun j => k (ix2 a j)) (r (ix2 a 0)) b := by
  pointwise [keysOf, k0_pay3]
  exact mul_div_norm (fun j => k (ix2 a j)) _ _

/-- A score, at the row of query `b` of sequence `a` of the block. -/
theorem score_at (x : FVec Ideal S4x576x256 .f32) (k : FVec Ideal S1024x256 .f32) (r : FVec Ideal S1024x1 .f32)
    (p : Fin 2304) (a : Fin 4) (b : Fin 576) (hp : p.val = a.val * 576 + b.val) (l : Fin 1024) :
    k0_pay7 (F := Ideal) x (keysOf k r) (ix2 p l)
      = score (fun j => x (ix3 a b j)) (fun j => k (ix2 l j)) (r (ix2 l 0)) := by
  have ha : (⟨p.val / 576, by omega⟩ : Fin 4) = a := Fin.ext (by show p.val / 576 = a.val; omega)
  have hb : (⟨p.val % 576, by omega⟩ : Fin 576) = b := Fin.ext (by show p.val % 576 = b.val; omega)
  pointwise [k0_pay7]
  rw [score]
  refine Finset.sum_congr rfl fun q _ => ?_
  rw [keysOf_at]
  simp only [ha, hb]
  rfl

/-- The test whether two words are equal, as a number: one where they are, zero elsewhere. -/
theorem indicator (u w : BitVec 32) :
    (FloatOps.sitofp (F := Ideal) .f32 (BitVec.setWidth 32 (IntOp.cmpi .eq u w)) : EReal) = if u = w then 1 else 0 := by
  by_cases h : u = w
  · subst h
    have e : BitVec.setWidth 32 (IntOp.cmpi .eq u u) = 1#32 := by simp [IntOp.cmpi]
    rw [e, if_pos rfl]
    show (((1#32 : BitVec 32).toInt : ℝ) : EReal) = 1
    norm_num
  · have e : BitVec.setWidth 32 (IntOp.cmpi .eq u w) = 0#32 := by rw [IntOp.cmpi, show (u == w) = false from beq_eq_false_iff_ne.2 h]; rfl
    rw [e, if_neg h]
    show (((0#32 : BitVec 32).toInt : ℝ) : EReal) = 0
    norm_num

/-- The sum of a row's entries over the chunk of 64 that holds position `b`. -/
theorem sum_chunk (f : Fin 256 → EReal) (b : Fin 256) :
    (∑ x : Fin 256, f x * (if BitVec.ofNat 32 (x.val / 64) = BitVec.ofNat 32 (b.val / 64) then 1 else 0))
      = ∑ j : Fin 64, f ⟨b.val / 64 * 64 + j.val, by omega⟩ := by
  have hw : ∀ x : Fin 256, BitVec.ofNat 32 (x.val / 64) = BitVec.ofNat 32 (b.val / 64) ↔ x.val / 64 = b.val / 64 := fun x =>
    ⟨fun h => by
      have := congrArg BitVec.toNat h
      rw [BitVec.toNat_ofNat, BitVec.toNat_ofNat] at this
      omega, fun h => by rw [h]⟩
  rw [Fin.sum_univ_tiles 4 64 rfl, Finset.sum_eq_single (⟨b.val / 64, by omega⟩ : Fin 4)]
  · refine Finset.sum_congr rfl fun t _ => ?_
    rw [if_pos ((hw _).2 (by show (b.val / 64 * 64 + t.val) / 64 = b.val / 64; omega)), mul_one]
  · intro q _ hq
    refine Finset.sum_eq_zero fun t _ => ?_
    rw [if_neg fun e => hq (Fin.ext (by
      have := (hw _).1 e
      simp only at this
      show q.val = b.val / 64
      omega)), mul_zero]
  · intro h; exact absurd (Finset.mem_univ _) h

/-- The index of the first position of the largest score, as the kernel finds it. -/
theorem best_at (x : FVec Ideal S4x576x256 .f32) (k : FVec Ideal S1024x256 .f32) (r : FVec Ideal S1024x1 .f32)
    (p : Fin 2304) (a : Fin 4) (b : Fin 576) (hp : p.val = a.val * 576 + b.val) (c : Fin 1024)
    (h : IsBest (fun l => score (fun j => x (ix3 a b j)) (fun j => k (ix2 l j)) (r (ix2 l 0))) c) :
    k0_pay9 (F := Ideal) x (keysOf k r) (ix1 p) = BitVec.ofNat 32 c.val := by
  have e := funext (score_at x k r p a b hp)
  pointwise [k0_pay9]
  have := least_hit (fun l => k0_pay7 (F := Ideal) x (keysOf k r) (ix2 p l)) c (by rw [e]; exact h)
  exact this

/-- The number of the chunk of 64 a position lies in, as the kernel computes it: the quotient rounded toward minus
    infinity, by way of the quotient rounded toward zero. -/
theorem chunkNumber (x : Fin 256) :
    Scalar.select
      (IntOp.andi
        (IntOp.cmpi .ne
          (IntOp.subi (BitVec.setWidth 32 (IntOp.cmpi .sgt (BitVec.ofNat 32 x.val) 0#32))
            (BitVec.setWidth 32 (IntOp.cmpi .slt (BitVec.ofNat 32 x.val) 0#32)))
          (Scalar.subi (Scalar.extui (Scalar.cmpi .sgt 64#32 0#32)) (Scalar.extui (Scalar.cmpi .slt 64#32 0#32))))
        (IntOp.cmpi .ne (IntOp.remsi .vector (BitVec.ofNat 32 x.val) 64#32) 0#32))
      (IntOp.subi (IntOp.divsi .vector (BitVec.ofNat 32 x.val) 64#32) 1#32)
      (IntOp.divsi .vector (BitVec.ofNat 32 x.val) 64#32) = BitVec.ofNat 32 (x.val / 64) := by
  revert x
  decide +kernel

/-- An entry of the value codebook. -/
theorem codesOf_at (v : FVec Ideal S1024x256 .f32) (a : Fin 1024) (b : Fin 256) :
    codesOf v (ix2 a b) = chunk (fun j => v (ix2 a j)) b := by
  pointwise [codesOf, k0_pay4, k0_pay5, k0_pay6]
  simp only [chunkNumber, indicator]
  rw [sum_chunk (fun j => v (ix2 a j) * v (ix2 a j)) b]
  have e : (⟨b.val / 64 * 64 + b.val % 64, by omega⟩ : Fin 256) = b := Fin.ext (by show b.val / 64 * 64 + b.val % 64 = b.val; omega)
  unfold chunk unit Rows.norm
  simp only [e]
  rfl

/-- The scores' block. -/
theorem scoreBlock_at (x : FVec Ideal S4x576x256 .f32) (k : FVec Ideal S1024x256 .f32) (r : FVec Ideal S1024x1 .f32)
    (a : Fin 4) (b : Fin 576) (l : Fin 1024) :
    k0_pay8 (F := Ideal) x (keysOf k r) (ix3 a b l)
      = score (fun j => x (ix3 a b j)) (fun j => k (ix2 l j)) (r (ix2 l 0)) := by
  pointwise [k0_pay8]
  exact score_at x k r _ a b rfl l

/-- The positions' block. -/
theorem idxBlock_at (x : FVec Ideal S4x576x256 .f32) (k : FVec Ideal S1024x256 .f32) (r : FVec Ideal S1024x1 .f32)
    (a : Fin 4) (b : Fin 576) (c : Fin 1024)
    (h : IsBest (fun l => score (fun j => x (ix3 a b j)) (fun j => k (ix2 l j)) (r (ix2 l 0))) c) :
    k0_pay10 (F := Ideal) x (keysOf k r) (ix3 a 0 b) = BitVec.ofNat 32 c.val := by
  pointwise [k0_pay10]
  exact best_at x k r _ a b rfl c h

/-- The chosen rows' block: the product with a row that is one at the chosen position and zero elsewhere. -/
theorem hardBlock_at (x : FVec Ideal S4x576x256 .f32) (k : FVec Ideal S1024x256 .f32) (r : FVec Ideal S1024x1 .f32)
    (v : FVec Ideal S1024x256 .f32) (a : Fin 4) (b : Fin 576) (l : Fin 256) (c : Fin 1024)
    (h : IsBest (fun l => score (fun j => x (ix3 a b j)) (fun j => k (ix2 l j)) (r (ix2 l 0))) c) :
    hardOf x (keysOf k r) (codesOf v) (ix3 a b l) = chunk (fun j => v (ix2 c j)) l := by
  pointwise [hardOf, k0_pay2]
  have hb := best_at x k r ⟨a.val * 576 + b.val, by omega⟩ a b rfl c h
  have e : ∀ y : Fin 1024, (FloatOps.sitofp (F := Ideal) .f32 (BitVec.setWidth 32 (IntOp.cmpi .eq (BitVec.ofNat 32 y.val)
        (k0_pay9 (F := Ideal) x (keysOf k r) (ix1 ⟨a.val * 576 + b.val, by omega⟩)))) : EReal) * codesOf v (ix2 y l)
      = (if BitVec.ofNat 32 y.val = BitVec.ofNat 32 c.val then 1 else 0) * chunk (fun j => v (ix2 y j)) l := fun y => by
    rw [hb, indicator, codesOf_at]
  refine (Finset.sum_congr rfl fun y _ => e y).trans ?_
  rw [Finset.sum_eq_single c]
  · rw [if_pos rfl, one_mul]
  · intro y _ hy
    rw [if_neg fun e => hy (Fin.ext (by
      have := congrArg BitVec.toNat e
      rw [BitVec.toNat_ofNat, BitVec.toNat_ofNat] at this
      omega)), zero_mul]
  · intro h; exact absurd (Finset.mem_univ _) h

/-- The soft values' block: the softmax of a query's scores against the codebook. -/
theorem softBlock_at (x : FVec Ideal S4x576x256 .f32) (k : FVec Ideal S1024x256 .f32) (r : FVec Ideal S1024x1 .f32)
    (v : FVec Ideal S1024x256 .f32) (a : Fin 4) (b : Fin 576) (l : Fin 256) :
    softOf x (keysOf k r) (codesOf v) (ix3 a b l)
      = ∑ y, weight (fun l => score (fun j => x (ix3 a b j)) (fun j => k (ix2 l j)) (r (ix2 l 0))) y
          * chunk (fun j => v (ix2 y j)) l := by
  pointwise [softOf, k0_pay1, k0_pay11, k0_pay12]
  have hn : (Named.named (F := Ideal) (φ := .f32) κ "inv_kt" 1092616192#32 : EReal) = invTemp :=
    IdealRules.named_const.ideal_named_scalar _ _ _ _ rfl
  have e : ∀ y : Fin 1024, Ideal.exp (k0_pay7 (F := Ideal) x (keysOf k r) (ix2 ⟨a.val * 576 + b.val, by omega⟩ y)
        * (Named.named (F := Ideal) (φ := .f32) κ "inv_kt" 1092616192#32 : EReal))
      = Ideal.exp (score (fun j => x (ix3 a b j)) (fun j => k (ix2 y j)) (r (ix2 y 0)) * invTemp) := fun y => by
    rw [score_at x k r ⟨a.val * 576 + b.val, by omega⟩ a b rfl y, hn]
  refine (congrArg₂ Ideal.div (Finset.sum_congr rfl fun y _ => congrArg₂ (· * ·) (e y) (codesOf_at v y l))
    (Finset.sum_congr rfl fun y _ => e y)).trans ?_
  exact soft_eq (fun l => score (fun j => x (ix3 a b j)) (fun j => k (ix2 l j)) (r (ix2 l 0)))
    (fun q => score_real _ _ _) 0 (fun y => chunk (fun j => v (ix2 y j)) l) fun q => chunk_real _ _

end Cert.KernelIdeal.Read

end
-- ==== Proof.RefOps.lean ====
/- The reference program's @main as five lines of host operations run one after the other, and which buffers each line
   writes. The program's text is `opsScore ++ opsArgmax ++ opsWeight ++ opsCodebook ++ opsResults` (`main_eq`). -/
module

public import proofs.«01_k».proof.Proof.Gen.ReferenceIdeal
public import Idealize.ShloMosaic.Lib.StableHlo.Run

@[expose] public section

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- The four chunks of the value codebook side by side. -/
def joinChunks (a b c d : (⟨S1024x64, .f32⟩ : BufTy).Contents (Elt F)) : (⟨S1024x256, .f32⟩ : BufTy).Contents (Elt F) :=
  concatenate S1024x256 1 [⟨S1024x64, a⟩, ⟨S1024x64, b⟩, ⟨S1024x64, c⟩, ⟨S1024x64, d⟩]
    concatenates_S1024x64_S1024x64_S1024x64_S1024x64_S1024x256_d1

/-- @main's operations, in order: the two normalisations and the scores (through `main_v15`). -/
abbrev opsScore : List (HloOp τ sig (Elt F)) :=
  [ TRef.binary (TRef.of (T := ⟨S16x576x256, .f32⟩) main_arg0) (TRef.of (T := ⟨S16x576x256, .f32⟩) main_arg0) (TRef.of (T := ⟨S16x576x256, .f32⟩) main_call0_v0) mulf,
    TRef.nullary (TRef.of (T := ⟨S_, .f32⟩) main_call0_cst) (constant S_ .f32 0x00000000#32),
    TRef.binary (TRef.of (T := ⟨S16x576x256, .f32⟩) main_call0_v0) (TRef.of (T := ⟨S_, .f32⟩) main_call0_cst) (TRef.of (T := ⟨S16x576, .f32⟩) main_call0_v1) (fun x v => Host.reduceAdd x v reducesTo_S16x576x256_S16x576_d2 h_S_),
    TRef.unary (TRef.of (T := ⟨S16x576, .f32⟩) main_call0_v1) (TRef.of (T := ⟨S16x576x1, .f32⟩) main_call0_v2) (broadcastInDim S16x576x1 ![0, 1] bcast_S16x576_S16x576x1_0_1),
    TRef.unary (TRef.of (T := ⟨S16x576x1, .f32⟩) main_call0_v2) (TRef.of (T := ⟨S16x576x1, .f32⟩) main_v0) Host.sqrt,
    nullary main_cst (constant S_ .f32 0x2B8CBCCC#32),
    unary main_cst main_v1 (broadcastInDim S16x576x1 ![] bcast_S_S16x576x1 : (⟨S_, .f32⟩ : BufTy).Contents (Elt F) → (⟨S16x576x1, .f32⟩ : BufTy).Contents (Elt F)),
    binary main_v0 main_v1 main_v2 (maximumf : (⟨S16x576x1, .f32⟩ : BufTy).Contents (Elt F) → (⟨S16x576x1, .f32⟩ : BufTy).Contents (Elt F) → (⟨S16x576x1, .f32⟩ : BufTy).Contents (Elt F)),
    unary main_v2 main_v3 (broadcastInDim S16x576x256 ![0, 1, 2] bcast_S16x576x1_S16x576x256_0_1_2 : (⟨S16x576x1, .f32⟩ : BufTy).Contents (Elt F) → (⟨S16x576x256, .f32⟩ : BufTy).Contents (Elt F)),
    binary main_arg0 main_v3 main_v4 (Host.divf : (⟨S16x576x256, .f32⟩ : BufTy).Contents (Elt F) → (⟨S16x576x256, .f32⟩ : BufTy).Contents (Elt F) → (⟨S16x576x256, .f32⟩ : BufTy).Contents (Elt F)),
    reshape main_v4 main_v5 (rfl : (.f32 : EltTy) = .f32) shapeCasts_S16x576x256_S9216x256,
    TRef.binary (TRef.of (T := ⟨S1024x256, .f32⟩) main_arg2) (TRef.of (T := ⟨S1024x256, .f32⟩) main_arg2) (TRef.of (T := ⟨S1024x256, .f32⟩) main_call1_v0) mulf,
    TRef.nullary (TRef.of (T := ⟨S_, .f32⟩) main_call1_cst) (constant S_ .f32 0x00000000#32),
    TRef.binary (TRef.of (T := ⟨S1024x256, .f32⟩) main_call1_v0) (TRef.of (T := ⟨S_, .f32⟩) main_call1_cst) (TRef.of (T := ⟨S1024, .f32⟩) main_call1_v1) (fun x v => Host.reduceAdd x v reducesTo_S1024x256_S1024_d1 h_S_),
    TRef.unary (TRef.of (T := ⟨S1024, .f32⟩) main_call1_v1) (TRef.of (T := ⟨S1024x1, .f32⟩) main_call1_v2) (broadcastInDim S1024x1 ![0] bcast_S1024_S1024x1_0),
    TRef.unary (TRef.of (T := ⟨S1024x1, .f32⟩) main_call1_v2) (TRef.of (T := ⟨S1024x1, .f32⟩) main_v6) Host.sqrt,
    nullary main_cst_0 (constant S_ .f32 0x2B8CBCCC#32),
    unary main_cst_0 main_v7 (broadcastInDim S1024x1 ![] bcast_S_S1024x1 : (⟨S_, .f32⟩ : BufTy).Contents (Elt F) → (⟨S1024x1, .f32⟩ : BufTy).Contents (Elt F)),
    binary main_v6 main_v7 main_v8 (maximumf : (⟨S1024x1, .f32⟩ : BufTy).Contents (Elt F) → (⟨S1024x1, .f32⟩ : BufTy).Contents (Elt F) → (⟨S1024x1, .f32⟩ : BufTy).Contents (Elt F)),
    unary main_v8 main_v9 (broadcastInDim S1024x256 ![0, 1] bcast_S1024x1_S1024x256_0_1 : (⟨S1024x1, .f32⟩ : BufTy).Contents (Elt F) → (⟨S1024x256, .f32⟩ : BufTy).Contents (Elt F)),
    binary main_arg2 main_v9 main_v10 (Host.divf : (⟨S1024x256, .f32⟩ : BufTy).Contents (Elt F) → (⟨S1024x256, .f32⟩ : BufTy).Contents (Elt F) → (⟨S1024x256, .f32⟩ : BufTy).Contents (Elt F)),
    nullary main_cst_1 (constant S_ .f32 0x00000000#32),
    nullary main_cst_2 (constant S_ .f32 0x3F800000#32),
    TRef.unary (TRef.of (T := ⟨S_, .f32⟩) main_cst_1) (TRef.of (T := ⟨S_, .f32⟩) main_call2_v0) id,
    TRef.unary (TRef.of (T := ⟨S_, .f32⟩) main_call2_v0) (TRef.of (T := ⟨S1024x1, .f32⟩) main_call2_v1) (broadcastInDim S1024x1 ![] bcast_S_S1024x1),
    TRef.binary (TRef.of (T := ⟨S1024x1, .f32⟩) main_call2_v1) (TRef.of (T := ⟨S1024x1, .f32⟩) main_arg3) (TRef.of (T := ⟨S1024x1, .f32⟩) main_call2_v2) maximumf,
    TRef.unary (TRef.of (T := ⟨S_, .f32⟩) main_cst_2) (TRef.of (T := ⟨S_, .f32⟩) main_call2_v3) id,
    TRef.unary (TRef.of (T := ⟨S_, .f32⟩) main_call2_v3) (TRef.of (T := ⟨S1024x1, .f32⟩) main_call2_v4) (broadcastInDim S1024x1 ![] bcast_S_S1024x1),
    TRef.binary (TRef.of (T := ⟨S1024x1, .f32⟩) main_call2_v4) (TRef.of (T := ⟨S1024x1, .f32⟩) main_call2_v2) (TRef.of (T := ⟨S1024x1, .f32⟩) main_v11) minimumf,
    unary main_v11 main_v12 (broadcastInDim S1024x256 ![0, 1] bcast_S1024x1_S1024x256_0_1 : (⟨S1024x1, .f32⟩ : BufTy).Contents (Elt F) → (⟨S1024x256, .f32⟩ : BufTy).Contents (Elt F)),
    binary main_v10 main_v12 main_v13 (mulf : (⟨S1024x256, .f32⟩ : BufTy).Contents (Elt F) → (⟨S1024x256, .f32⟩ : BufTy).Contents (Elt F) → (⟨S1024x256, .f32⟩ : BufTy).Contents (Elt F)),
    unary main_v13 main_v14 ((transpose S256x1024 [1, 0] · transposes_S1024x256_S256x1024_1_0) : (⟨S1024x256, .f32⟩ : BufTy).Contents (Elt F) → (⟨S256x1024, .f32⟩ : BufTy).Contents (Elt F)),
    binary main_v5 main_v14 main_v15 ((fun l r => Host.dotGeneral dot_S9216x256_S256x1024_S9216x1024_1_0_0_1_n_n none l r) : (⟨S9216x256, .f32⟩ : BufTy).Contents (Elt F) → (⟨S256x1024, .f32⟩ : BufTy).Contents (Elt F) → (⟨S9216x1024, .f32⟩ : BufTy).Contents (Elt F)) ]

/-- @main's operations, in order: the argmax of each row of scores (`main_v16`). -/
abbrev opsArgmax : List (HloOp τ sig (Elt F)) :=
  [ TRef.nullary (TRef.of (T := ⟨S9216x1024, .i32⟩) main_call3_v0) (iotaInDim S9216x1024 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S9216x1024, .f32⟩) main_v15) (TRef.of (T := ⟨S9216x1024, .i32⟩) main_call3_v0) (TRef.of (T := ⟨S_, .f32⟩) main_call3_cst) (TRef.of (T := ⟨S_, .i32⟩) main_call3_c) (TRef.of (T := ⟨S9216, .f32⟩) main_call3_v1_0) (fun x y u v j => (Host.argReduce reducer_argmax_f32_i32 x y u v reducesTo_S9216x1024_S9216_d1 h_S_ j).1),
    TRef.quaternary (TRef.of (T := ⟨S9216x1024, .f32⟩) main_v15) (TRef.of (T := ⟨S9216x1024, .i32⟩) main_call3_v0) (TRef.of (T := ⟨S_, .f32⟩) main_call3_cst) (TRef.of (T := ⟨S_, .i32⟩) main_call3_c) (TRef.of (T := ⟨S9216, .i32⟩) main_v16) (fun x y u v j => (Host.argReduce reducer_argmax_f32_i32 x y u v reducesTo_S9216x1024_S9216_d1 h_S_ j).2) ]

/-- @main's operations, in order: the softmax of the scores over the temperature and its `nan_to_num` (`main_v30`). -/
abbrev opsWeight : List (HloOp τ sig (Elt F)) :=
  [ nullary main_cst_3 (constant S_ .f32 0x3DCCCCCD#32),
    unary main_cst_3 main_v17 (broadcastInDim S9216x1024 ![] bcast_S_S9216x1024 : (⟨S_, .f32⟩ : BufTy).Contents (Elt F) → (⟨S9216x1024, .f32⟩ : BufTy).Contents (Elt F)),
    binary main_v15 main_v17 main_v18 (Host.divf : (⟨S9216x1024, .f32⟩ : BufTy).Contents (Elt F) → (⟨S9216x1024, .f32⟩ : BufTy).Contents (Elt F) → (⟨S9216x1024, .f32⟩ : BufTy).Contents (Elt F)),
    nullary main_cst_4 (constant S_ .f32 0xFF800000#32),
    binary main_v18 main_cst_4 main_v19 ((fun x v => Host.reduce FloatOps.maximumf x v reducesTo_S9216x1024_S9216_d1 h_S_) : (⟨S9216x1024, .f32⟩ : BufTy).Contents (Elt F) → (⟨S_, .f32⟩ : BufTy).Contents (Elt F) → (⟨S9216, .f32⟩ : BufTy).Contents (Elt F)),
    nullary main_cst_5 (constant S_ .f32 0xFF800000#32),
    unary main_cst_5 main_v20 (broadcastInDim S9216 ![] bcast_S_S9216 : (⟨S_, .f32⟩ : BufTy).Contents (Elt F) → (⟨S9216, .f32⟩ : BufTy).Contents (Elt F)),
    binary main_v20 main_v19 main_v21 (maximumf : (⟨S9216, .f32⟩ : BufTy).Contents (Elt F) → (⟨S9216, .f32⟩ : BufTy).Contents (Elt F) → (⟨S9216, .f32⟩ : BufTy).Contents (Elt F)),
    unary main_v21 main_v22 (broadcastInDim S9216x1 ![0] bcast_S9216_S9216x1_0 : (⟨S9216, .f32⟩ : BufTy).Contents (Elt F) → (⟨S9216x1, .f32⟩ : BufTy).Contents (Elt F)),
    unary main_v22 main_v23 (broadcastInDim S9216x1024 ![0, 1] bcast_S9216x1_S9216x1024_0_1 : (⟨S9216x1, .f32⟩ : BufTy).Contents (Elt F) → (⟨S9216x1024, .f32⟩ : BufTy).Contents (Elt F)),
    binary main_v18 main_v23 main_v24 (subf : (⟨S9216x1024, .f32⟩ : BufTy).Contents (Elt F) → (⟨S9216x1024, .f32⟩ : BufTy).Contents (Elt F) → (⟨S9216x1024, .f32⟩ : BufTy).Contents (Elt F)),
    unary main_v24 main_v25 (Host.exp : (⟨S9216x1024, .f32⟩ : BufTy).Contents (Elt F) → (⟨S9216x1024, .f32⟩ : BufTy).Contents (Elt F)),
    nullary main_cst_6 (constant S_ .f32 0x00000000#32),
    binary main_v25 main_cst_6 main_v26 ((fun x v => Host.reduceAdd x v reducesTo_S9216x1024_S9216_d1 h_S_) : (⟨S9216x1024, .f32⟩ : BufTy).Contents (Elt F) → (⟨S_, .f32⟩ : BufTy).Contents (Elt F) → (⟨S9216, .f32⟩ : BufTy).Contents (Elt F)),
    unary main_v26 main_v27 (broadcastInDim S9216x1 ![0] bcast_S9216_S9216x1_0 : (⟨S9216, .f32⟩ : BufTy).Contents (Elt F) → (⟨S9216x1, .f32⟩ : BufTy).Contents (Elt F)),
    unary main_v27 main_v28 (broadcastInDim S9216x1024 ![0, 1] bcast_S9216x1_S9216x1024_0_1 : (⟨S9216x1, .f32⟩ : BufTy).Contents (Elt F) → (⟨S9216x1024, .f32⟩ : BufTy).Contents (Elt F)),
    binary main_v25 main_v28 main_v29 (Host.divf : (⟨S9216x1024, .f32⟩ : BufTy).Contents (Elt F) → (⟨S9216x1024, .f32⟩ : BufTy).Contents (Elt F) → (⟨S9216x1024, .f32⟩ : BufTy).Contents (Elt F)),
    TRef.binary (TRef.of (T := ⟨S9216x1024, .f32⟩) main_v29) (TRef.of (T := ⟨S9216x1024, .f32⟩) main_v29) (TRef.of (T := ⟨S9216x1024, .i1⟩) main_call4_v0) (cmpf .une),
    TRef.nullary (TRef.of (T := ⟨S_, .f32⟩) main_call4_cst) (constant S_ .f32 0x00000000#32),
    TRef.unary (TRef.of (T := ⟨S_, .f32⟩) main_call4_cst) (TRef.of (T := ⟨S9216x1024, .f32⟩) main_call4_call0_v0) (broadcastInDim S9216x1024 ![] bcast_S_S9216x1024),
    TRef.ternary (TRef.of (T := ⟨S9216x1024, .i1⟩) main_call4_v0) (TRef.of (T := ⟨S9216x1024, .f32⟩) main_call4_call0_v0) (TRef.of (T := ⟨S9216x1024, .f32⟩) main_v29) (TRef.of (T := ⟨S9216x1024, .f32⟩) main_call4_v1) select,
    TRef.nullary (TRef.of (T := ⟨S_, .f32⟩) main_call4_cst_0) (constant S_ .f32 0x7F800000#32),
    TRef.unary (TRef.of (T := ⟨S_, .f32⟩) main_call4_cst_0) (TRef.of (T := ⟨S9216x1024, .f32⟩) main_call4_v2) (broadcastInDim S9216x1024 ![] bcast_S_S9216x1024),
    TRef.binary (TRef.of (T := ⟨S9216x1024, .f32⟩) main_call4_v1) (TRef.of (T := ⟨S9216x1024, .f32⟩) main_call4_v2) (TRef.of (T := ⟨S9216x1024, .i1⟩) main_call4_v3) (cmpf .oeq),
    TRef.nullary (TRef.of (T := ⟨S_, .f32⟩) main_call4_cst_1) (constant S_ .f32 0x7F7FFFFF#32),
    TRef.unary (TRef.of (T := ⟨S_, .f32⟩) main_call4_cst_1) (TRef.of (T := ⟨S9216x1024, .f32⟩) main_call4_call1_v0) (broadcastInDim S9216x1024 ![] bcast_S_S9216x1024),
    TRef.ternary (TRef.of (T := ⟨S9216x1024, .i1⟩) main_call4_v3) (TRef.of (T := ⟨S9216x1024, .f32⟩) main_call4_call1_v0) (TRef.of (T := ⟨S9216x1024, .f32⟩) main_call4_v1) (TRef.of (T := ⟨S9216x1024, .f32⟩) main_call4_v4) select,
    TRef.nullary (TRef.of (T := ⟨S_, .f32⟩) main_call4_cst_2) (constant S_ .f32 0xFF800000#32),
    TRef.unary (TRef.of (T := ⟨S_, .f32⟩) main_call4_cst_2) (TRef.of (T := ⟨S9216x1024, .f32⟩) main_call4_v5) (broadcastInDim S9216x1024 ![] bcast_S_S9216x1024),
    TRef.binary (TRef.of (T := ⟨S9216x1024, .f32⟩) main_call4_v4) (TRef.of (T := ⟨S9216x1024, .f32⟩) main_call4_v5) (TRef.of (T := ⟨S9216x1024, .i1⟩) main_call4_v6) (cmpf .oeq),
    TRef.nullary (TRef.of (T := ⟨S_, .f32⟩) main_call4_cst_3) (constant S_ .f32 0xFF7FFFFF#32),
    TRef.unary (TRef.of (T := ⟨S_, .f32⟩) main_call4_cst_3) (TRef.of (T := ⟨S9216x1024, .f32⟩) main_call4_call2_v0) (broadcastInDim S9216x1024 ![] bcast_S_S9216x1024),
    TRef.ternary (TRef.of (T := ⟨S9216x1024, .i1⟩) main_call4_v6) (TRef.of (T := ⟨S9216x1024, .f32⟩) main_call4_call2_v0) (TRef.of (T := ⟨S9216x1024, .f32⟩) main_call4_v4) (TRef.of (T := ⟨S9216x1024, .f32⟩) main_v30) select ]

/-- @main's operations, in order: the value codebook, normalised chunk by chunk (`main_v55`). -/
abbrev opsCodebook : List (HloOp τ sig (Elt F)) :=
  [ unary main_arg4 main_v31 ((extractStridedSlice S1024x64 ![0, 0] · slices_S1024x256_S1024x64_0_0) : (⟨S1024x256, .f32⟩ : BufTy).Contents (Elt F) → (⟨S1024x64, .f32⟩ : BufTy).Contents (Elt F)),
    TRef.binary (TRef.of (T := ⟨S1024x64, .f32⟩) main_v31) (TRef.of (T := ⟨S1024x64, .f32⟩) main_v31) (TRef.of (T := ⟨S1024x64, .f32⟩) main_call5_v0) mulf,
    TRef.nullary (TRef.of (T := ⟨S_, .f32⟩) main_call5_cst) (constant S_ .f32 0x00000000#32),
    TRef.binary (TRef.of (T := ⟨S1024x64, .f32⟩) main_call5_v0) (TRef.of (T := ⟨S_, .f32⟩) main_call5_cst) (TRef.of (T := ⟨S1024, .f32⟩) main_call5_v1) (fun x v => Host.reduceAdd x v reducesTo_S1024x64_S1024_d1 h_S_),
    TRef.unary (TRef.of (T := ⟨S1024, .f32⟩) main_call5_v1) (TRef.of (T := ⟨S1024x1, .f32⟩) main_call5_v2) (broadcastInDim S1024x1 ![0] bcast_S1024_S1024x1_0),
    TRef.unary (TRef.of (T := ⟨S1024x1, .f32⟩) main_call5_v2) (TRef.of (T := ⟨S1024x1, .f32⟩) main_v32) Host.sqrt,
    nullary main_cst_7 (constant S_ .f32 0x2B8CBCCC#32),
    unary main_cst_7 main_v33 (broadcastInDim S1024x1 ![] bcast_S_S1024x1 : (⟨S_, .f32⟩ : BufTy).Contents (Elt F) → (⟨S1024x1, .f32⟩ : BufTy).Contents (Elt F)),
    binary main_v32 main_v33 main_v34 (maximumf : (⟨S1024x1, .f32⟩ : BufTy).Contents (Elt F) → (⟨S1024x1, .f32⟩ : BufTy).Contents (Elt F) → (⟨S1024x1, .f32⟩ : BufTy).Contents (Elt F)),
    unary main_v34 main_v35 (broadcastInDim S1024x64 ![0, 1] bcast_S1024x1_S1024x64_0_1 : (⟨S1024x1, .f32⟩ : BufTy).Contents (Elt F) → (⟨S1024x64, .f32⟩ : BufTy).Contents (Elt F)),
    binary main_v31 main_v35 main_v36 (Host.divf : (⟨S1024x64, .f32⟩ : BufTy).Contents (Elt F) → (⟨S1024x64, .f32⟩ : BufTy).Contents (Elt F) → (⟨S1024x64, .f32⟩ : BufTy).Contents (Elt F)),
    unary main_arg4 main_v37 ((extractStridedSlice S1024x64 ![0, 64] · slices_S1024x256_S1024x64_0_64) : (⟨S1024x256, .f32⟩ : BufTy).Contents (Elt F) → (⟨S1024x64, .f32⟩ : BufTy).Contents (Elt F)),
    TRef.binary (TRef.of (T := ⟨S1024x64, .f32⟩) main_v37) (TRef.of (T := ⟨S1024x64, .f32⟩) main_v37) (TRef.of (T := ⟨S1024x64, .f32⟩) main_call6_v0) mulf,
    TRef.nullary (TRef.of (T := ⟨S_, .f32⟩) main_call6_cst) (constant S_ .f32 0x00000000#32),
    TRef.binary (TRef.of (T := ⟨S1024x64, .f32⟩) main_call6_v0) (TRef.of (T := ⟨S_, .f32⟩) main_call6_cst) (TRef.of (T := ⟨S1024, .f32⟩) main_call6_v1) (fun x v => Host.reduceAdd x v reducesTo_S1024x64_S1024_d1 h_S_),
    TRef.unary (TRef.of (T := ⟨S1024, .f32⟩) main_call6_v1) (TRef.of (T := ⟨S1024x1, .f32⟩) main_call6_v2) (broadcastInDim S1024x1 ![0] bcast_S1024_S1024x1_0),
    TRef.unary (TRef.of (T := ⟨S1024x1, .f32⟩) main_call6_v2) (TRef.of (T := ⟨S1024x1, .f32⟩) main_v38) Host.sqrt,
    nullary main_cst_8 (constant S_ .f32 0x2B8CBCCC#32),
    unary main_cst_8 main_v39 (broadcastInDim S1024x1 ![] bcast_S_S1024x1 : (⟨S_, .f32⟩ : BufTy).Contents (Elt F) → (⟨S1024x1, .f32⟩ : BufTy).Contents (Elt F)),
    binary main_v38 main_v39 main_v40 (maximumf : (⟨S1024x1, .f32⟩ : BufTy).Contents (Elt F) → (⟨S1024x1, .f32⟩ : BufTy).Contents (Elt F) → (⟨S1024x1, .f32⟩ : BufTy).Contents (Elt F)),
    unary main_v40 main_v41 (broadcastInDim S1024x64 ![0, 1] bcast_S1024x1_S1024x64_0_1 : (⟨S1024x1, .f32⟩ : BufTy).Contents (Elt F) → (⟨S1024x64, .f32⟩ : BufTy).Contents (Elt F)),
    binary main_v37 main_v41 main_v42 (Host.divf : (⟨S1024x64, .f32⟩ : BufTy).Contents (Elt F) → (⟨S1024x64, .f32⟩ : BufTy).Contents (Elt F) → (⟨S1024x64, .f32⟩ : BufTy).Contents (Elt F)),
    unary main_arg4 main_v43 ((extractStridedSlice S1024x64 ![0, 128] · slices_S1024x256_S1024x64_0_128) : (⟨S1024x256, .f32⟩ : BufTy).Contents (Elt F) → (⟨S1024x64, .f32⟩ : BufTy).Contents (Elt F)),
    TRef.binary (TRef.of (T := ⟨S1024x64, .f32⟩) main_v43) (TRef.of (T := ⟨S1024x64, .f32⟩) main_v43) (TRef.of (T := ⟨S1024x64, .f32⟩) main_call7_v0) mulf,
    TRef.nullary (TRef.of (T := ⟨S_, .f32⟩) main_call7_cst) (constant S_ .f32 0x00000000#32),
    TRef.binary (TRef.of (T := ⟨S1024x64, .f32⟩) main_call7_v0) (TRef.of (T := ⟨S_, .f32⟩) main_call7_cst) (TRef.of (T := ⟨S1024, .f32⟩) main_call7_v1) (fun x v => Host.reduceAdd x v reducesTo_S1024x64_S1024_d1 h_S_),
    TRef.unary (TRef.of (T := ⟨S1024, .f32⟩) main_call7_v1) (TRef.of (T := ⟨S1024x1, .f32⟩) main_call7_v2) (broadcastInDim S1024x1 ![0] bcast_S1024_S1024x1_0),
    TRef.unary (TRef.of (T := ⟨S1024x1, .f32⟩) main_call7_v2) (TRef.of (T := ⟨S1024x1, .f32⟩) main_v44) Host.sqrt,
    nullary main_cst_9 (constant S_ .f32 0x2B8CBCCC#32),
    unary main_cst_9 main_v45 (broadcastInDim S1024x1 ![] bcast_S_S1024x1 : (⟨S_, .f32⟩ : BufTy).Contents (Elt F) → (⟨S1024x1, .f32⟩ : BufTy).Contents (Elt F)),
    binary main_v44 main_v45 main_v46 (maximumf : (⟨S1024x1, .f32⟩ : BufTy).Contents (Elt F) → (⟨S1024x1, .f32⟩ : BufTy).Contents (Elt F) → (⟨S1024x1, .f32⟩ : BufTy).Contents (Elt F)),
    unary main_v46 main_v47 (broadcastInDim S1024x64 ![0, 1] bcast_S1024x1_S1024x64_0_1 : (⟨S1024x1, .f32⟩ : BufTy).Contents (Elt F) → (⟨S1024x64, .f32⟩ : BufTy).Contents (Elt F)),
    binary main_v43 main_v47 main_v48 (Host.divf : (⟨S1024x64, .f32⟩ : BufTy).Contents (Elt F) → (⟨S1024x64, .f32⟩ : BufTy).Contents (Elt F) → (⟨S1024x64, .f32⟩ : BufTy).Contents (Elt F)),
    unary main_arg4 main_v49 ((extractStridedSlice S1024x64 ![0, 192] · slices_S1024x256_S1024x64_0_192) : (⟨S1024x256, .f32⟩ : BufTy).Contents (Elt F) → (⟨S1024x64, .f32⟩ : BufTy).Contents (Elt F)),
    TRef.binary (TRef.of (T := ⟨S1024x64, .f32⟩) main_v49) (TRef.of (T := ⟨S1024x64, .f32⟩) main_v49) (TRef.of (T := ⟨S1024x64, .f32⟩) main_call8_v0) mulf,
    TRef.nullary (TRef.of (T := ⟨S_, .f32⟩) main_call8_cst) (constant S_ .f32 0x00000000#32),
    TRef.binary (TRef.of (T := ⟨S1024x64, .f32⟩) main_call8_v0) (TRef.of (T := ⟨S_, .f32⟩) main_call8_cst) (TRef.of (T := ⟨S1024, .f32⟩) main_call8_v1) (fun x v => Host.reduceAdd x v reducesTo_S1024x64_S1024_d1 h_S_),
    TRef.unary (TRef.of (T := ⟨S1024, .f32⟩) main_call8_v1) (TRef.of (T := ⟨S1024x1, .f32⟩) main_call8_v2) (broadcastInDim S1024x1 ![0] bcast_S1024_S1024x1_0),
    TRef.unary (TRef.of (T := ⟨S1024x1, .f32⟩) main_call8_v2) (TRef.of (T := ⟨S1024x1, .f32⟩) main_v50) Host.sqrt,
    nullary main_cst_10 (constant S_ .f32 0x2B8CBCCC#32),
    unary main_cst_10 main_v51 (broadcastInDim S1024x1 ![] bcast_S_S1024x1 : (⟨S_, .f32⟩ : BufTy).Contents (Elt F) → (⟨S1024x1, .f32⟩ : BufTy).Contents (Elt F)),
    binary main_v50 main_v51 main_v52 (maximumf : (⟨S1024x1, .f32⟩ : BufTy).Contents (Elt F) → (⟨S1024x1, .f32⟩ : BufTy).Contents (Elt F) → (⟨S1024x1, .f32⟩ : BufTy).Contents (Elt F)),
    unary main_v52 main_v53 (broadcastInDim S1024x64 ![0, 1] bcast_S1024x1_S1024x64_0_1 : (⟨S1024x1, .f32⟩ : BufTy).Contents (Elt F) → (⟨S1024x64, .f32⟩ : BufTy).Contents (Elt F)),
    binary main_v49 main_v53 main_v54 (Host.divf : (⟨S1024x64, .f32⟩ : BufTy).Contents (Elt F) → (⟨S1024x64, .f32⟩ : BufTy).Contents (Elt F) → (⟨S1024x64, .f32⟩ : BufTy).Contents (Elt F)),
    nary ![main_v36, main_v42, main_v48, main_v54] main_v55 (fun u => joinChunks (F := F) (u 0) (u 1) (u 2) (u 3)) ]

/-- @main's operations, in order: the results: the weighted sums, the gathered rows, and the reshapes (`main_v57` to `main_v61`). -/
abbrev opsResults : List (HloOp τ sig (Elt F)) :=
  [ binary main_v30 main_v55 main_v56 ((fun l r => Host.dotGeneral dot_S9216x1024_S1024x256_S9216x256_1_0_0_1_n_n none l r) : (⟨S9216x1024, .f32⟩ : BufTy).Contents (Elt F) → (⟨S1024x256, .f32⟩ : BufTy).Contents (Elt F) → (⟨S9216x256, .f32⟩ : BufTy).Contents (Elt F)),
    reshape main_v56 main_v57 (rfl : (.f32 : EltTy) = .f32) shapeCasts_S9216x256_S16x576x256,
    TRef.nullary (TRef.of (T := ⟨S_, .i32⟩) main_call9_c) (constantI S_ 32 0#32),
    TRef.unary (TRef.of (T := ⟨S_, .i32⟩) main_call9_c) (TRef.of (T := ⟨S9216, .i32⟩) main_call9_v0) (broadcastInDim S9216 ![] bcast_S_S9216),
    TRef.binary (TRef.of (T := ⟨S9216, .i32⟩) main_v16) (TRef.of (T := ⟨S9216, .i32⟩) main_call9_v0) (TRef.of (T := ⟨S9216, .i1⟩) main_call9_v1) (cmpi .slt),
    TRef.nullary (TRef.of (T := ⟨S_, .i32⟩) main_call9_c_0) (constantI S_ 32 1024#32),
    TRef.unary (TRef.of (T := ⟨S_, .i32⟩) main_call9_c_0) (TRef.of (T := ⟨S9216, .i32⟩) main_call9_v2) (broadcastInDim S9216 ![] bcast_S_S9216),
    TRef.binary (TRef.of (T := ⟨S9216, .i32⟩) main_v16) (TRef.of (T := ⟨S9216, .i32⟩) main_call9_v2) (TRef.of (T := ⟨S9216, .i32⟩) main_call9_v3) addi,
    TRef.ternary (TRef.of (T := ⟨S9216, .i1⟩) main_call9_v1) (TRef.of (T := ⟨S9216, .i32⟩) main_call9_v3) (TRef.of (T := ⟨S9216, .i32⟩) main_v16) (TRef.of (T := ⟨S9216, .i32⟩) main_call9_v4) select,
    TRef.unary (TRef.of (T := ⟨S9216, .i32⟩) main_call9_v4) (TRef.of (T := ⟨S9216x1, .i32⟩) main_call9_v5) (broadcastInDim S9216x1 ![0] bcast_S9216_S9216x1_0),
    TRef.nullary (TRef.of (T := ⟨S1, .i32⟩) main_call9_c_1) (constantI S1 32 1023#32),
    TRef.nullary (TRef.of (T := ⟨S_, .i32⟩) main_call9_c_2) (constantI S_ 32 0#32),
    TRef.unary (TRef.of (T := ⟨S_, .i32⟩) main_call9_c_2) (TRef.of (T := ⟨S9216x1, .i32⟩) main_call9_v6) (broadcastInDim S9216x1 ![] bcast_S_S9216x1),
    TRef.binary (TRef.of (T := ⟨S9216x1, .i32⟩) main_call9_v5) (TRef.of (T := ⟨S9216x1, .i32⟩) main_call9_v6) (TRef.of (T := ⟨S9216x1, .i1⟩) main_call9_v7) (cmpi .sge),
    TRef.unary (TRef.of (T := ⟨S1, .i32⟩) main_call9_c_1) (TRef.of (T := ⟨S1x1, .i32⟩) main_call9_v8) (broadcastInDim S1x1 ![1] bcast_S1_S1x1_1),
    TRef.unary (TRef.of (T := ⟨S1x1, .i32⟩) main_call9_v8) (TRef.of (T := ⟨S9216x1, .i32⟩) main_call9_v9) (broadcastInDim S9216x1 ![0, 1] bcast_S1x1_S9216x1_0_1),
    TRef.binary (TRef.of (T := ⟨S9216x1, .i32⟩) main_call9_v5) (TRef.of (T := ⟨S9216x1, .i32⟩) main_call9_v9) (TRef.of (T := ⟨S9216x1, .i1⟩) main_call9_v10) (cmpi .sle),
    TRef.binary (TRef.of (T := ⟨S9216x1, .i1⟩) main_call9_v7) (TRef.of (T := ⟨S9216x1, .i1⟩) main_call9_v10) (TRef.of (T := ⟨S9216x1, .i1⟩) main_call9_v11) andi,
    TRef.nullary (TRef.of (T := ⟨S_, .i1⟩) main_call9_c_3) (constantI S_ 1 1#1),
    TRef.binary (TRef.of (T := ⟨S9216x1, .i1⟩) main_call9_v11) (TRef.of (T := ⟨S_, .i1⟩) main_call9_c_3) (TRef.of (T := ⟨S9216, .i1⟩) main_call9_v12) (fun x v => Host.reduce IntOp.andi x v reducesTo_S9216x1_S9216_d1 h_S_),
    TRef.binary (TRef.of (T := ⟨S1024x256, .f32⟩) main_v55) (TRef.of (T := ⟨S9216x1, .i32⟩) main_call9_v5) (TRef.of (T := ⟨S9216x256, .f32⟩) main_call9_v13) (fun x i => Host.gather gather_S1024x256_S9216x1_S9216x256_1_0_n_n_0_1_1256 x i),
    TRef.unary (TRef.of (T := ⟨S9216, .i1⟩) main_call9_v12) (TRef.of (T := ⟨S9216x256, .i1⟩) main_call9_v14) (broadcastInDim S9216x256 ![0] bcast_S9216_S9216x256_0),
    TRef.nullary (TRef.of (T := ⟨S_, .f32⟩) main_call9_cst) (constant S_ .f32 0x7FC00000#32),
    TRef.unary (TRef.of (T := ⟨S_, .f32⟩) main_call9_cst) (TRef.of (T := ⟨S9216x256, .f32⟩) main_call9_v15) (broadcastInDim S9216x256 ![] bcast_S_S9216x256),
    TRef.ternary (TRef.of (T := ⟨S9216x256, .i1⟩) main_call9_v14) (TRef.of (T := ⟨S9216x256, .f32⟩) main_call9_v13) (TRef.of (T := ⟨S9216x256, .f32⟩) main_call9_v15) (TRef.of (T := ⟨S9216x256, .f32⟩) main_v58) select,
    reshape main_v58 main_v59 (rfl : (.f32 : EltTy) = .f32) shapeCasts_S9216x256_S16x576x256,
    reshape main_v16 main_v60 (rfl : (.i32 : EltTy) = .i32) shapeCasts_S9216_S16x576,
    reshape main_v15 main_v61 (rfl : (.f32 : EltTy) = .f32) shapeCasts_S9216x1024_S16x576x1024 ]

/-- The buffers `opsScore` writes, in order. -/
abbrev writtenScore : List (Ref sig .tc) :=
  [main_call0_v0, main_call0_cst, main_call0_v1, main_call0_v2, main_v0, main_cst, main_v1, main_v2, main_v3, main_v4,
   main_v5, main_call1_v0, main_call1_cst, main_call1_v1, main_call1_v2, main_v6, main_cst_0, main_v7, main_v8, main_v9,
   main_v10, main_cst_1, main_cst_2, main_call2_v0, main_call2_v1, main_call2_v2, main_call2_v3, main_call2_v4,
   main_v11, main_v12, main_v13, main_v14, main_v15]

/-- The buffers `opsArgmax` writes, in order. -/
abbrev writtenArgmax : List (Ref sig .tc) :=
  [main_call3_v0, main_call3_cst, main_call3_c, main_call3_v1_0, main_v16]

/-- The buffers `opsWeight` writes, in order. -/
abbrev writtenWeight : List (Ref sig .tc) :=
  [main_cst_3, main_v17, main_v18, main_cst_4, main_v19, main_cst_5, main_v20, main_v21, main_v22, main_v23, main_v24,
   main_v25, main_cst_6, main_v26, main_v27, main_v28, main_v29, main_call4_v0, main_call4_cst, main_call4_call0_v0,
   main_call4_v1, main_call4_cst_0, main_call4_v2, main_call4_v3, main_call4_cst_1, main_call4_call1_v0, main_call4_v4,
   main_call4_cst_2, main_call4_v5, main_call4_v6, main_call4_cst_3, main_call4_call2_v0, main_v30]

/-- The buffers `opsCodebook` writes, in order. -/
abbrev writtenCodebook : List (Ref sig .tc) :=
  [main_v31, main_call5_v0, main_call5_cst, main_call5_v1, main_call5_v2, main_v32, main_cst_7, main_v33, main_v34,
   main_v35, main_v36, main_v37, main_call6_v0, main_call6_cst, main_call6_v1, main_call6_v2, main_v38, main_cst_8,
   main_v39, main_v40, main_v41, main_v42, main_v43, main_call7_v0, main_call7_cst, main_call7_v1, main_call7_v2,
   main_v44, main_cst_9, main_v45, main_v46, main_v47, main_v48, main_v49, main_call8_v0, main_call8_cst, main_call8_v1,
   main_call8_v2, main_v50, main_cst_10, main_v51, main_v52, main_v53, main_v54, main_v55]

/-- The buffers `opsResults` writes, in order. -/
abbrev writtenResults : List (Ref sig .tc) :=
  [main_v56, main_v57, main_call9_c, main_call9_v0, main_call9_v1, main_call9_c_0, main_call9_v2, main_call9_v3,
   main_call9_v4, main_call9_v5, main_call9_c_1, main_call9_c_2, main_call9_v6, main_call9_v7, main_call9_v8,
   main_call9_v9, main_call9_v10, main_call9_v11, main_call9_c_3, main_call9_v12, main_call9_v13, main_call9_v14,
   main_call9_cst, main_call9_v15, main_v58, main_v59, main_v60, main_v61]

/-- The whole of @main's operations. -/
abbrev ops : List (HloOp τ sig (Elt F)) := opsScore ++ (opsArgmax ++ (opsWeight ++ (opsCodebook ++ opsResults)))

set_option maxRecDepth 8192 in
set_option maxHeartbeats 4000000 in
/-- The printed @main is its operations run in order. -/
theorem main_eq (c : Dev nD) : main (F := F) c = seq ops := rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

set_option maxRecDepth 8192 in
/-- `opsScore` touches buffers of the TensorCore only. -/
theorem opsScore_sub : (opsScore : List (HloOp τ sig (Elt F))).Forall fun op => op.bufs ⊆ tcRefs τ sig :=
  ⟨binary_bufs_sub .., nullary_bufs_sub .., binary_bufs_sub .., unary_bufs_sub .., unary_bufs_sub .., nullary_bufs_sub
   .., unary_bufs_sub .., binary_bufs_sub .., unary_bufs_sub .., binary_bufs_sub .., reshape_bufs_sub ..,
   binary_bufs_sub .., nullary_bufs_sub .., binary_bufs_sub .., unary_bufs_sub .., unary_bufs_sub .., nullary_bufs_sub
   .., unary_bufs_sub .., binary_bufs_sub .., unary_bufs_sub .., binary_bufs_sub .., nullary_bufs_sub ..,
   nullary_bufs_sub .., unary_bufs_sub .., unary_bufs_sub .., binary_bufs_sub .., unary_bufs_sub .., unary_bufs_sub ..,
   binary_bufs_sub .., unary_bufs_sub .., binary_bufs_sub .., unary_bufs_sub .., binary_bufs_sub ..⟩

set_option maxRecDepth 8192 in
/-- `opsArgmax` touches buffers of the TensorCore only. -/
theorem opsArgmax_sub : (opsArgmax : List (HloOp τ sig (Elt F))).Forall fun op => op.bufs ⊆ tcRefs τ sig :=
  ⟨nullary_bufs_sub .., nullary_bufs_sub .., nullary_bufs_sub .., quaternary_bufs_sub .., quaternary_bufs_sub ..⟩

set_option maxRecDepth 8192 in
/-- `opsWeight` touches buffers of the TensorCore only. -/
theorem opsWeight_sub : (opsWeight : List (HloOp τ sig (Elt F))).Forall fun op => op.bufs ⊆ tcRefs τ sig :=
  ⟨nullary_bufs_sub .., unary_bufs_sub .., binary_bufs_sub .., nullary_bufs_sub .., binary_bufs_sub .., nullary_bufs_sub
   .., unary_bufs_sub .., binary_bufs_sub .., unary_bufs_sub .., unary_bufs_sub .., binary_bufs_sub .., unary_bufs_sub
   .., nullary_bufs_sub .., binary_bufs_sub .., unary_bufs_sub .., unary_bufs_sub .., binary_bufs_sub ..,
   binary_bufs_sub .., nullary_bufs_sub .., unary_bufs_sub .., ternary_bufs_sub .., nullary_bufs_sub .., unary_bufs_sub
   .., binary_bufs_sub .., nullary_bufs_sub .., unary_bufs_sub .., ternary_bufs_sub .., nullary_bufs_sub ..,
   unary_bufs_sub .., binary_bufs_sub .., nullary_bufs_sub .., unary_bufs_sub .., ternary_bufs_sub ..⟩

set_option maxRecDepth 8192 in
/-- `opsCodebook` touches buffers of the TensorCore only. -/
theorem opsCodebook_sub : (opsCodebook : List (HloOp τ sig (Elt F))).Forall fun op => op.bufs ⊆ tcRefs τ sig :=
  ⟨unary_bufs_sub .., binary_bufs_sub .., nullary_bufs_sub .., binary_bufs_sub .., unary_bufs_sub .., unary_bufs_sub ..,
   nullary_bufs_sub .., unary_bufs_sub .., binary_bufs_sub .., unary_bufs_sub .., binary_bufs_sub .., unary_bufs_sub ..,
   binary_bufs_sub .., nullary_bufs_sub .., binary_bufs_sub .., unary_bufs_sub .., unary_bufs_sub .., nullary_bufs_sub
   .., unary_bufs_sub .., binary_bufs_sub .., unary_bufs_sub .., binary_bufs_sub .., unary_bufs_sub .., binary_bufs_sub
   .., nullary_bufs_sub .., binary_bufs_sub .., unary_bufs_sub .., unary_bufs_sub .., nullary_bufs_sub ..,
   unary_bufs_sub .., binary_bufs_sub .., unary_bufs_sub .., binary_bufs_sub .., unary_bufs_sub .., binary_bufs_sub ..,
   nullary_bufs_sub .., binary_bufs_sub .., unary_bufs_sub .., unary_bufs_sub .., nullary_bufs_sub .., unary_bufs_sub
   .., binary_bufs_sub .., unary_bufs_sub .., binary_bufs_sub .., nary_bufs_sub ..⟩

set_option maxRecDepth 8192 in
/-- `opsResults` touches buffers of the TensorCore only. -/
theorem opsResults_sub : (opsResults : List (HloOp τ sig (Elt F))).Forall fun op => op.bufs ⊆ tcRefs τ sig :=
  ⟨binary_bufs_sub .., reshape_bufs_sub .., nullary_bufs_sub .., unary_bufs_sub .., binary_bufs_sub .., nullary_bufs_sub
   .., unary_bufs_sub .., binary_bufs_sub .., ternary_bufs_sub .., unary_bufs_sub .., nullary_bufs_sub ..,
   nullary_bufs_sub .., unary_bufs_sub .., binary_bufs_sub .., unary_bufs_sub .., unary_bufs_sub .., binary_bufs_sub ..,
   binary_bufs_sub .., nullary_bufs_sub .., binary_bufs_sub .., binary_bufs_sub .., unary_bufs_sub .., nullary_bufs_sub
   .., unary_bufs_sub .., ternary_bufs_sub .., reshape_bufs_sub .., reshape_bufs_sub .., reshape_bufs_sub ..⟩

/-- Every operation touches buffers of the TensorCore only. -/
theorem ops_sub : (ops : List (HloOp τ sig (Elt F))).Forall fun op => op.bufs ⊆ tcRefs τ sig :=
  List.forall_append.mpr ⟨opsScore_sub, List.forall_append.mpr ⟨opsArgmax_sub, List.forall_append.mpr ⟨opsWeight_sub,
    List.forall_append.mpr ⟨opsCodebook_sub, opsResults_sub⟩⟩⟩⟩

set_option maxRecDepth 8192 in
set_option maxHeartbeats 4000000 in
/-- `opsScore` leaves every buffer it does not write. -/
theorem after_opsScore_keep (V : Valuation τ sig (Elt F)) {r : Ref sig .tc} (hr : r ∉ writtenScore) :
    after opsScore V (Proc.devRef .tc r) = V (Proc.devRef .tc r) :=
  after_of_writes_sub opsScore V (forall_writes_sub_of_map (W := writtenScore) rfl) hr

set_option maxRecDepth 8192 in
set_option maxHeartbeats 4000000 in
/-- `opsArgmax` leaves every buffer it does not write. -/
theorem after_opsArgmax_keep (V : Valuation τ sig (Elt F)) {r : Ref sig .tc} (hr : r ∉ writtenArgmax) :
    after opsArgmax V (Proc.devRef .tc r) = V (Proc.devRef .tc r) :=
  after_of_writes_sub opsArgmax V (forall_writes_sub_of_map (W := writtenArgmax) rfl) hr

set_option maxRecDepth 8192 in
set_option maxHeartbeats 4000000 in
/-- `opsWeight` leaves every buffer it does not write. -/
theorem after_opsWeight_keep (V : Valuation τ sig (Elt F)) {r : Ref sig .tc} (hr : r ∉ writtenWeight) :
    after opsWeight V (Proc.devRef .tc r) = V (Proc.devRef .tc r) :=
  after_of_writes_sub opsWeight V (forall_writes_sub_of_map (W := writtenWeight) rfl) hr

set_option maxRecDepth 8192 in
set_option maxHeartbeats 4000000 in
/-- `opsCodebook` leaves every buffer it does not write. -/
theorem after_opsCodebook_keep (V : Valuation τ sig (Elt F)) {r : Ref sig .tc} (hr : r ∉ writtenCodebook) :
    after opsCodebook V (Proc.devRef .tc r) = V (Proc.devRef .tc r) :=
  after_of_writes_sub opsCodebook V (forall_writes_sub_of_map (W := writtenCodebook) rfl) hr

set_option maxRecDepth 8192 in
set_option maxHeartbeats 4000000 in
/-- `opsResults` leaves every buffer it does not write. -/
theorem after_opsResults_keep (V : Valuation τ sig (Elt F)) {r : Ref sig .tc} (hr : r ∉ writtenResults) :
    after opsResults V (Proc.devRef .tc r) = V (Proc.devRef .tc r) :=
  after_of_writes_sub opsResults V (forall_writes_sub_of_map (W := writtenResults) rfl) hr

end Cert.ReferenceIdeal.Host

end
-- ==== Proof.RefRun.lean ====
/- What the reference program's five lines of operations compute, each as one function of arrays, and the run of the whole
   program: every result buffer ends at those functions of the arguments. -/
module

public import proofs.«01_k».proof.Proof.RefOps

@[expose] public section

set_option maxRecDepth 8192

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- An array of shape `s` with entries of type `t`. -/
abbrev Arr (F : FTy → Type) (s : Shape) (t : EltTy) : Type := (⟨s, t⟩ : BufTy).Contents (Elt F)

/-- The queries, each row divided by its norm (by the small constant where that is larger). -/
def unitX (x : Arr F S16x576x256 .f32) : Arr F S16x576x256 .f32 :=
  Host.divf x (broadcastInDim S16x576x256 ![0, 1, 2] bcast_S16x576x1_S16x576x256_0_1_2
    (maximumf (Host.sqrt (broadcastInDim S16x576x1 ![0, 1] bcast_S16x576_S16x576x1_0_1
        (Host.reduceAdd (mulf x x) (constant S_ .f32 0x00000000#32) reducesTo_S16x576x256_S16x576_d2 h_S_)))
      (broadcastInDim S16x576x1 ![] bcast_S_S16x576x1 (constant S_ .f32 0x2B8CBCCC#32))))

/-- The keys, each row divided by its norm. -/
def unitKeys (k : Arr F S1024x256 .f32) : Arr F S1024x256 .f32 :=
  Host.divf k (broadcastInDim S1024x256 ![0, 1] bcast_S1024x1_S1024x256_0_1
    (maximumf (Host.sqrt (broadcastInDim S1024x1 ![0] bcast_S1024_S1024x1_0
        (Host.reduceAdd (mulf k k) (constant S_ .f32 0x00000000#32) reducesTo_S1024x256_S1024_d1 h_S_)))
      (broadcastInDim S1024x1 ![] bcast_S_S1024x1 (constant S_ .f32 0x2B8CBCCC#32))))

/-- The keys' scales, clipped to between zero and one. -/
def clipR (r : Arr F S1024x1 .f32) : Arr F S1024x1 .f32 :=
  minimumf (broadcastInDim S1024x1 ![] bcast_S_S1024x1 (constant S_ .f32 0x3F800000#32))
    (maximumf (broadcastInDim S1024x1 ![] bcast_S_S1024x1 (constant S_ .f32 0x00000000#32)) r)

/-- The scaled keys. -/
def scaledKeys (k : Arr F S1024x256 .f32) (r : Arr F S1024x1 .f32) : Arr F S1024x256 .f32 :=
  mulf (unitKeys k) (broadcastInDim S1024x256 ![0, 1] bcast_S1024x1_S1024x256_0_1 (clipR r))

/-- The scores: every query's row against every scaled key. -/
def scores (x : Arr F S16x576x256 .f32) (k : Arr F S1024x256 .f32) (r : Arr F S1024x1 .f32) : Arr F S9216x1024 .f32 :=
  Host.dotGeneral dot_S9216x256_S256x1024_S9216x1024_1_0_0_1_n_n none
    (shapeCast S9216x256 (unitX x) shapeCasts_S16x576x256_S9216x256)
    (transpose S256x1024 [1, 0] (scaledKeys k r) transposes_S1024x256_S256x1024_1_0)

/-- The position of each row's largest score. -/
def argmaxRow (s : Arr F S9216x1024 .f32) : Arr F S9216 .i32 :=
  fun j => (Host.argReduce reducer_argmax_f32_i32 s (iotaInDim S9216x1024 32 1) (constant S_ .f32 0xFF800000#32)
    (constantI S_ 32 0#32) reducesTo_S9216x1024_S9216_d1 h_S_ j).2

/-- The scores over the temperature. -/
def tempered (s : Arr F S9216x1024 .f32) : Arr F S9216x1024 .f32 :=
  Host.divf s (broadcastInDim S9216x1024 ![] bcast_S_S9216x1024 (constant S_ .f32 0x3DCCCCCD#32))

/-- The largest entry of each row, from below by minus infinity. -/
def rowTop (t : Arr F S9216x1024 .f32) : Arr F S9216 .f32 :=
  maximumf (broadcastInDim S9216 ![] bcast_S_S9216 (constant S_ .f32 0xFF800000#32))
    (Host.reduce FloatOps.maximumf t (constant S_ .f32 0xFF800000#32) reducesTo_S9216x1024_S9216_d1 h_S_)

/-- The exponentials of a row's entries less its largest. -/
def shiftedExp (t : Arr F S9216x1024 .f32) : Arr F S9216x1024 .f32 :=
  Host.exp (subf t (broadcastInDim S9216x1024 ![0, 1] bcast_S9216x1_S9216x1024_0_1
    (broadcastInDim S9216x1 ![0] bcast_S9216_S9216x1_0 (rowTop t))))

/-- A row's exponentials over their sum. -/
def overSum (e : Arr F S9216x1024 .f32) : Arr F S9216x1024 .f32 :=
  Host.divf e (broadcastInDim S9216x1024 ![0, 1] bcast_S9216x1_S9216x1024_0_1
    (broadcastInDim S9216x1 ![0] bcast_S9216_S9216x1_0
      (Host.reduceAdd e (constant S_ .f32 0x00000000#32) reducesTo_S9216x1024_S9216_d1 h_S_)))

/-- `nan_to_num`'s first step: zero where an entry differs from itself. -/
def noNaN (w : Arr F S9216x1024 .f32) : Arr F S9216x1024 .f32 :=
  select (cmpf .une w w) (broadcastInDim S9216x1024 ![] bcast_S_S9216x1024 (constant S_ .f32 0x00000000#32)) w

/-- `nan_to_num`'s second step: the largest finite number where an entry is plus infinity. -/
def noTop (w : Arr F S9216x1024 .f32) : Arr F S9216x1024 .f32 :=
  select (cmpf .oeq w (broadcastInDim S9216x1024 ![] bcast_S_S9216x1024 (constant S_ .f32 0x7F800000#32)))
    (broadcastInDim S9216x1024 ![] bcast_S_S9216x1024 (constant S_ .f32 0x7F7FFFFF#32)) w

/-- `nan_to_num`'s third step: the least finite number where an entry is minus infinity. -/
def noBot (w : Arr F S9216x1024 .f32) : Arr F S9216x1024 .f32 :=
  select (cmpf .oeq w (broadcastInDim S9216x1024 ![] bcast_S_S9216x1024 (constant S_ .f32 0xFF800000#32)))
    (broadcastInDim S9216x1024 ![] bcast_S_S9216x1024 (constant S_ .f32 0xFF7FFFFF#32)) w

/-- The weights: the softmax of the tempered scores, its `nan_to_num` taken. -/
def weights (s : Arr F S9216x1024 .f32) : Arr F S9216x1024 .f32 :=
  noBot (noTop (noNaN (overSum (shiftedExp (tempered s)))))

/-- A chunk of the value codebook, each row divided by its norm. -/
def unitChunk (v : Arr F S1024x64 .f32) : Arr F S1024x64 .f32 :=
  Host.divf v (broadcastInDim S1024x64 ![0, 1] bcast_S1024x1_S1024x64_0_1
    (maximumf (Host.sqrt (broadcastInDim S1024x1 ![0] bcast_S1024_S1024x1_0
        (Host.reduceAdd (mulf v v) (constant S_ .f32 0x00000000#32) reducesTo_S1024x64_S1024_d1 h_S_)))
      (broadcastInDim S1024x1 ![] bcast_S_S1024x1 (constant S_ .f32 0x2B8CBCCC#32))))

/-- The value codebook with every chunk of every row divided by its norm. -/
def codebook (v : Arr F S1024x256 .f32) : Arr F S1024x256 .f32 :=
  joinChunks
    (unitChunk (extractStridedSlice S1024x64 ![0, 0] v slices_S1024x256_S1024x64_0_0))
    (unitChunk (extractStridedSlice S1024x64 ![0, 64] v slices_S1024x256_S1024x64_0_64))
    (unitChunk (extractStridedSlice S1024x64 ![0, 128] v slices_S1024x256_S1024x64_0_128))
    (unitChunk (extractStridedSlice S1024x64 ![0, 192] v slices_S1024x256_S1024x64_0_192))

/-- The soft values, one row per query. -/
def softRows (w : Arr F S9216x1024 .f32) (b : Arr F S1024x256 .f32) : Arr F S9216x256 .f32 :=
  Host.dotGeneral dot_S9216x1024_S1024x256_S9216x256_1_0_0_1_n_n none w b

/-- `take`'s row numbers as a column, a negative number counted from the end. -/
def takeIdx (i : Arr F S9216 .i32) : Arr F S9216x1 .i32 :=
  broadcastInDim S9216x1 ![0] bcast_S9216_S9216x1_0
    (select (cmpi .slt i (broadcastInDim S9216 ![] bcast_S_S9216 (constantI S_ 32 0#32)))
      (addi i (broadcastInDim S9216 ![] bcast_S_S9216 (constantI S_ 32 1024#32))) i)

/-- Whether each row number lies within the codebook. -/
def takeInside (q : Arr F S9216x1 .i32) : Arr F S9216 .i1 :=
  Host.reduce IntOp.andi
    (andi (cmpi .sge q (broadcastInDim S9216x1 ![] bcast_S_S9216x1 (constantI S_ 32 0#32)))
      (cmpi .sle q (broadcastInDim S9216x1 ![0, 1] bcast_S1x1_S9216x1_0_1
        (broadcastInDim S1x1 ![1] bcast_S1_S1x1_1 (constantI S1 32 1023#32)))))
    (constantI S_ 1 1#1) reducesTo_S9216x1_S9216_d1 h_S_

/-- The gathered rows, one per query, a constant where the row number is not one of the codebook's. -/
def hardRows (b : Arr F S1024x256 .f32) (i : Arr F S9216 .i32) : Arr F S9216x256 .f32 :=
  select (broadcastInDim S9216x256 ![0] bcast_S9216_S9216x256_0 (takeInside (takeIdx i)))
    (Host.gather gather_S1024x256_S9216x1_S9216x256_1_0_n_n_0_1_1256 b (takeIdx i))
    (broadcastInDim S9216x256 ![] bcast_S_S9216x256 (constant S_ .f32 0x7FC00000#32))

set_option maxHeartbeats 8000000 in
/-- The first line leaves the scores. -/
theorem after_opsScore (V : Valuation τ sig (Elt F)) :
    after opsScore V (Proc.devRef .tc main_v15)
      = scores (V (Proc.devRef .tc main_arg0)) (V (Proc.devRef .tc main_arg2)) (V (Proc.devRef .tc main_arg3)) := by
  simp only [opsScore, TRef.binary, TRef.nullary, TRef.ternary, TRef.unary, TRef.toBuf, TRef.ofBuf, cast_eq]
  after_results_simp
  rfl

set_option maxHeartbeats 8000000 in
/-- The second line leaves the row numbers. -/
theorem after_opsArgmax (V : Valuation τ sig (Elt F)) :
    after opsArgmax V (Proc.devRef .tc main_v16) = argmaxRow (V (Proc.devRef .tc main_v15)) := by
  simp only [opsArgmax, TRef.quaternary, TRef.nullary, TRef.toBuf, TRef.ofBuf, cast_eq]
  after_results_simp
  rfl

set_option maxHeartbeats 8000000 in
/-- The third line leaves the weights. -/
theorem after_opsWeight (V : Valuation τ sig (Elt F)) :
    after opsWeight V (Proc.devRef .tc main_v30) = weights (V (Proc.devRef .tc main_v15)) := by
  simp only [opsWeight, TRef.binary, TRef.nullary, TRef.ternary, TRef.unary, TRef.toBuf, TRef.ofBuf, cast_eq]
  after_results_simp
  rfl

set_option maxHeartbeats 8000000 in
/-- The fourth line leaves the value codebook. -/
theorem after_opsCodebook (V : Valuation τ sig (Elt F)) :
    after opsCodebook V (Proc.devRef .tc main_v55) = codebook (V (Proc.devRef .tc main_arg4)) := by
  simp only [opsCodebook, TRef.binary, TRef.nullary, TRef.ternary, TRef.unary, TRef.toBuf, TRef.ofBuf, cast_eq]
  after_results_simp
  rfl

set_option maxHeartbeats 8000000 in
/-- The last line leaves the soft values. -/
theorem after_opsResults_soft (V : Valuation τ sig (Elt F)) :
    after opsResults V (Proc.devRef .tc main_v57)
      = shapeCast S16x576x256 (softRows (V (Proc.devRef .tc main_v30)) (V (Proc.devRef .tc main_v55))) shapeCasts_S9216x256_S16x576x256 := by
  simp only [opsResults, TRef.binary, TRef.nullary, TRef.ternary, TRef.unary, TRef.toBuf, TRef.ofBuf, cast_eq]
  after_results_simp
  rfl

set_option maxHeartbeats 8000000 in
/-- The last line leaves the gathered rows. -/
theorem after_opsResults_hard (V : Valuation τ sig (Elt F)) :
    after opsResults V (Proc.devRef .tc main_v59)
      = shapeCast S16x576x256 (hardRows (V (Proc.devRef .tc main_v55)) (V (Proc.devRef .tc main_v16))) shapeCasts_S9216x256_S16x576x256 := by
  simp only [opsResults, TRef.binary, TRef.nullary, TRef.ternary, TRef.unary, TRef.toBuf, TRef.ofBuf, cast_eq]
  after_results_simp
  rfl

set_option maxHeartbeats 8000000 in
/-- The last line leaves the row numbers, reshaped. -/
theorem after_opsResults_idx (V : Valuation τ sig (Elt F)) :
    after opsResults V (Proc.devRef .tc main_v60)
      = shapeCast S16x576 (V (Proc.devRef .tc main_v16) : Arr F S9216 .i32) shapeCasts_S9216_S16x576 := by
  simp only [opsResults, TRef.binary, TRef.nullary, TRef.ternary, TRef.unary, TRef.toBuf, TRef.ofBuf, cast_eq]
  after_results_simp
  rfl

set_option maxHeartbeats 8000000 in
/-- The last line leaves the scores, reshaped. -/
theorem after_opsResults_score (V : Valuation τ sig (Elt F)) :
    after opsResults V (Proc.devRef .tc main_v61)
      = shapeCast S16x576x1024 (V (Proc.devRef .tc main_v15) : Arr F S9216x1024 .f32) shapeCasts_S9216x1024_S16x576x1024 := by
  simp only [opsResults, TRef.binary, TRef.nullary, TRef.ternary, TRef.unary, TRef.toBuf, TRef.ofBuf, cast_eq]
  after_results_simp
  rfl

/-- Two lines run one after the other leave what the second leaves from what the first left. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the whole program, line by line. -/
theorem after_ops (V : Valuation τ sig (Elt F)) :
    after ops V = after opsResults (after opsCodebook (after opsWeight (after opsArgmax (after opsScore V)))) := by
  rw [after_two, after_two, after_two, after_two]

/-- A buffer none of the lines writes keeps its contents over the whole program. -/
theorem after_ops_keep (V : Valuation τ sig (Elt F)) {r : Ref sig .tc} (h1 : r ∉ writtenScore) (h2 : r ∉ writtenArgmax)
    (h3 : r ∉ writtenWeight) (h4 : r ∉ writtenCodebook) (h5 : r ∉ writtenResults) :
    after ops V (Proc.devRef .tc r) = V (Proc.devRef .tc r) := by
  rw [after_ops, after_opsResults_keep _ h5, after_opsCodebook_keep _ h4, after_opsWeight_keep _ h3,
    after_opsArgmax_keep _ h2, after_opsScore_keep _ h1]

/-- Just before the last line the scores' buffer holds the scores. -/
theorem before_results_score (V : Valuation τ sig (Elt F)) :
    after opsCodebook (after opsWeight (after opsArgmax (after opsScore V))) (Proc.devRef .tc main_v15)
      = scores (V (Proc.devRef .tc main_arg0)) (V (Proc.devRef .tc main_arg2)) (V (Proc.devRef .tc main_arg3)) := by
  rw [after_opsCodebook_keep _ (by decide), after_opsWeight_keep _ (by decide), after_opsArgmax_keep _ (by decide), after_opsScore]

/-- Just before the last line the row numbers' buffer holds the row numbers. -/
theorem before_results_idx (V : Valuation τ sig (Elt F)) :
    after opsCodebook (after opsWeight (after opsArgmax (after opsScore V))) (Proc.devRef .tc main_v16)
      = argmaxRow (scores (V (Proc.devRef .tc main_arg0)) (V (Proc.devRef .tc main_arg2)) (V (Proc.devRef .tc main_arg3))) := by
  rw [after_opsCodebook_keep _ (by decide), after_opsWeight_keep _ (by decide), after_opsArgmax, after_opsScore]

/-- Just before the last line the weights' buffer holds the weights. -/
theorem before_results_weight (V : Valuation τ sig (Elt F)) :
    after opsCodebook (after opsWeight (after opsArgmax (after opsScore V))) (Proc.devRef .tc main_v30)
      = weights (scores (V (Proc.devRef .tc main_arg0)) (V (Proc.devRef .tc main_arg2)) (V (Proc.devRef .tc main_arg3))) := by
  rw [after_opsCodebook_keep _ (by decide), after_opsWeight, after_opsArgmax_keep _ (by decide), after_opsScore]

/-- Just before the last line the codebook's buffer holds the normalised codebook. -/
theorem before_results_codebook (V : Valuation τ sig (Elt F)) :
    after opsCodebook (after opsWeight (after opsArgmax (after opsScore V))) (Proc.devRef .tc main_v55)
      = codebook (V (Proc.devRef .tc main_arg4)) := by
  rw [after_opsCodebook, after_opsWeight_keep _ (by decide), after_opsArgmax_keep _ (by decide), after_opsScore_keep _ (by decide)]

/-- The first result: the soft values. -/
def outSoft (x : Arr F S16x576x256 .f32) (k : Arr F S1024x256 .f32) (r : Arr F S1024x1 .f32) (v : Arr F S1024x256 .f32) :
    Arr F S16x576x256 .f32 :=
  shapeCast S16x576x256 (softRows (weights (scores x k r)) (codebook v)) shapeCasts_S9216x256_S16x576x256

/-- The second result: the rows of the codebook at the largest scores. -/
def outHard (x : Arr F S16x576x256 .f32) (k : Arr F S1024x256 .f32) (r : Arr F S1024x1 .f32) (v : Arr F S1024x256 .f32) :
    Arr F S16x576x256 .f32 :=
  shapeCast S16x576x256 (hardRows (codebook v) (argmaxRow (scores x k r))) shapeCasts_S9216x256_S16x576x256

/-- The third result: the positions of the largest scores. -/
def outIdx (x : Arr F S16x576x256 .f32) (k : Arr F S1024x256 .f32) (r : Arr F S1024x1 .f32) : Arr F S16x576 .i32 :=
  shapeCast S16x576 (argmaxRow (scores x k r)) shapeCasts_S9216_S16x576

/-- The fourth result: the scores. -/
def outScore (x : Arr F S16x576x256 .f32) (k : Arr F S1024x256 .f32) (r : Arr F S1024x1 .f32) : Arr F S16x576x1024 .f32 :=
  shapeCast S16x576x1024 (scores x k r) shapeCasts_S9216x1024_S16x576x1024

/-- From any memory with zero counters, on every device: the program terminates with its four results at the functions above of
    the arguments' contents at the start, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
          = outSoft (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_v59)
          = outHard (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_v60)
          = outIdx (m ((c.tc : Thread nD τ).loc main_arg0)) (m ((c.tc : Thread nD τ).loc main_arg2))
              (m ((c.tc : Thread nD τ).loc main_arg3))
      ∧ r.2.mem ((c.tc : Thread nD τ).loc main_v61)
          = outScore (m ((c.tc : Thread nD τ).loc main_arg0)) (m ((c.tc : Thread nD τ).loc main_arg2))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v57).trans (by
        rw [after_ops, after_opsResults_soft, before_results_weight, before_results_codebook]; rfl),
      (h c main_v59).trans (by
        rw [after_ops, after_opsResults_hard, before_results_codebook, before_results_idx]; rfl),
      (h c main_v60).trans (by rw [after_ops, after_opsResults_idx, before_results_idx]; rfl),
      (h c main_v61).trans (by rw [after_ops, after_opsResults_score, before_results_score]; rfl),
      (h c main_arg0).trans (after_ops_keep _ (by decide) (by decide) (by decide) (by decide) (by decide)),
      (h c main_arg1).trans (after_ops_keep _ (by decide) (by decide) (by decide) (by decide) (by decide)),
      (h c main_arg2).trans (after_ops_keep _ (by decide) (by decide) (by decide) (by decide) (by decide)),
      (h c main_arg3).trans (after_ops_keep _ (by decide) (by decide) (by decide) (by decide) (by decide)),
      (h c main_arg4).trans (after_ops_keep _ (by decide) (by decide) (by decide) (by decide) (by decide))⟩)
    (run_seq scopedRefs_eq scopedSems_eq defs main (fun _ => ops) main_eq (fun _ => ops_sub) m ρ)

end Cert.ReferenceIdeal.Host

end
-- ==== Proof.RefRead.lean ====
/- The reference's stages read at an index: every one is a function of rows (Rows.lean, Best.lean). -/
module

public import proofs.«01_k».proof.Proof.RefRun
public import proofs.«01_k».proof.Proof.Best
public import Idealize.ShloMosaic.Lib.Pointwise

@[expose] public section

set_option maxRecDepth 16384

noncomputable section

namespace Cert.ReferenceIdeal.Read

open Cert.ReferenceIdeal Cert.ReferenceIdeal.Gen Cert.ReferenceIdeal.Host Cert.Rows Idealize.ShloMosaic Idealize.ShloMosaic.TcCoe

/-- A query's row divided by its norm. -/
theorem unitX_at (x : FVec Ideal S16x576x256 .f32) (a : Fin 16) (b : Fin 576) (l : Fin 256) :
    unitX (F := Ideal) x (ix3 a b l) = unit (fun j => x (ix3 a b j)) l := by
  pointwise [unitX]
  rfl

/-- A scaled key. -/
theorem scaledKeys_at (k : FVec Ideal S1024x256 .f32) (r : FVec Ideal S1024x1 .f32) (a : Fin 1024) (b : Fin 256) :
    scaledKeys (F := Ideal) k r (ix2 a b) = key (fun j => k (ix2 a j)) (r (ix2 a 0)) b := by
  pointwise [scaledKeys, unitKeys, clipR]
  rfl

/-- A score, at the row of query `b` of sequence `a`. -/
theorem scores_at (x : FVec Ideal S16x576x256 .f32) (k : FVec Ideal S1024x256 .f32) (r : FVec Ideal S1024x1 .f32)
    (p : Fin 9216) (a : Fin 16) (b : Fin 576) (hp : p.val = a.val * 576 + b.val) (l : Fin 1024) :
    scores (F := Ideal) x k r (ix2 p l)
      = score (fun j => x (ix3 a b j)) (fun j => k (ix2 l j)) (r (ix2 l 0)) := by
  have ha : (⟨p.val / 576, by omega⟩ : Fin 16) = a := Fin.ext (by show p.val / 576 = a.val; omega)
  have hb : (⟨p.val % 576, by omega⟩ : Fin 576) = b := Fin.ext (by show p.val % 576 = b.val; omega)
  pointwise [scores]
  rw [score]
  refine Finset.sum_congr rfl fun q _ => ?_
  rw [ha, hb, unitX_at, scaledKeys_at]

/-- A score over the temperature. -/
theorem tempered_at (s : FVec Ideal S9216x1024 .f32) (a : Fin 9216) (b : Fin 1024) :
    tempered (F := Ideal) s (ix2 a b) = Ideal.div (s (ix2 a b)) temp := by
  pointwise [tempered]
  rfl

/-- The maximum of a row taken by the host, as a fold over the row. -/
theorem reduceTop_at (t : FVec Ideal S9216x1024 .f32) (a : Fin 9216) :
    Host.reduce (FloatOps.maximumf (F := Ideal) (φ := .f32)) t (constant S_ .f32 0xFF800000#32)
      reducesTo_S9216x1024_S9216_d1 h_S_ (ix1 a) = Finset.univ.fold max lowest fun l => t (ix2 a l) := by
  rw [Host.reduce_eq_fold, Shape.ReducesTo.fold_fiber_r2_a1]
  rfl

/-- The maximum of minus infinity and an entry. -/
theorem topOf_at (t : FVec Ideal S9216 .f32) (a : Fin 9216) :
    maximumf (broadcastInDim S9216 ![] bcast_S_S9216 (constant S_ .f32 0xFF800000#32)) t (ix1 a) = max lowest (t (ix1 a)) := by
  pointwise []
  rfl

/-- The largest entry of a row. -/
theorem rowTop_at (t : FVec Ideal S9216x1024 .f32) (a : Fin 9216) :
    rowTop (F := Ideal) t (ix1 a) = max lowest (Finset.univ.fold max lowest fun l => t (ix2 a l)) :=
  (topOf_at _ a).trans (congrArg (max lowest) (reduceTop_at t a))

/-- An exponential. -/
theorem shiftedExp_at (s : FVec Ideal S9216x1024 .f32) (a : Fin 9216) (b : Fin 1024) :
    shiftedExp (F := Ideal) (tempered (F := Ideal) s) (ix2 a b) = expo (fun l => s (ix2 a l)) b := by
  pointwise [shiftedExp]
  rw [rowTop_at, tempered_at, expo]
  simp only [tempered_at]

/-- A row's exponentials over their sum. -/
theorem overSum_at (e : FVec Ideal S9216x1024 .f32) (a : Fin 9216) (b : Fin 1024) :
    overSum (F := Ideal) e (ix2 a b) = Ideal.div (e (ix2 a b)) (∑ l, e (ix2 a l)) := by
  pointwise [overSum]

/-- The first step of `nan_to_num` changes nothing. -/
theorem noNaN_at (w : FVec Ideal S9216x1024 .f32) (a : Fin 9216) (b : Fin 1024) :
    noNaN (F := Ideal) w (ix2 a b) = w (ix2 a b) := by
  pointwise [noNaN]
  simp

/-- The second step changes no real entry. -/
theorem noTop_at (w : FVec Ideal S9216x1024 .f32) (a : Fin 9216) (b : Fin 1024) (h : IsReal (w (ix2 a b))) :
    noTop (F := Ideal) w (ix2 a b) = w (ix2 a b) := by
  pointwise [noTop]
  refine if_neg fun e => ?_
  obtain ⟨r, hr⟩ := h
  rw [hr] at e
  exact EReal.coe_ne_top r (e.trans highest_eq)

/-- The third step changes no real entry. -/
theorem noBot_at (w : FVec Ideal S9216x1024 .f32) (a : Fin 9216) (b : Fin 1024) (h : IsReal (w (ix2 a b))) :
    noBot (F := Ideal) w (ix2 a b) = w (ix2 a b) := by
  pointwise [noBot]
  refine if_neg fun e => ?_
  obtain ⟨r, hr⟩ := h
  rw [hr] at e
  exact EReal.coe_ne_bot r (e.trans lowest_eq)

/-- The weights of a row of real scores are its softmax. -/
theorem weights_at (s : FVec Ideal S9216x1024 .f32) (a : Fin 9216) (b : Fin 1024) (h : ∀ l, IsReal (s (ix2 a l))) :
    weights (F := Ideal) s (ix2 a b) = weight (fun l => s (ix2 a l)) b := by
  have e : overSum (F := Ideal) (shiftedExp (F := Ideal) (tempered (F := Ideal) s)) (ix2 a b) = weight (fun l => s (ix2 a l)) b := by
    rw [overSum_at, weight, shiftedExp_at]
    simp only [shiftedExp_at]
  have hr : IsReal (weight (fun l => s (ix2 a l)) b) := weight_real _ h b
  unfold weights
  rw [noBot_at, noTop_at, noNaN_at, e]
  · rw [noNaN_at, e]; exact hr
  · rw [noTop_at, noNaN_at, e]
    · exact hr
    · rw [noNaN_at, e]; exact hr

/-- A chunk's row divided by its norm. -/
theorem unitChunk_at (v : FVec Ideal S1024x64 .f32) (a : Fin 1024) (b : Fin 64) :
    unitChunk (F := Ideal) v (ix2 a b) = unit (fun j => v (ix2 a j)) b := by
  pointwise [unitChunk]
  rfl

/-- An entry of the value codebook. -/
theorem codebook_at (v : FVec Ideal S1024x256 .f32) (a : Fin 1024) (b : Fin 256) :
    codebook (F := Ideal) v (ix2 a b) = chunk (fun j => v (ix2 a j)) b := by
  have key : ∀ (q : Nat) (hq : b.val / 64 = q) (w : FVec Ideal S1024x64 .f32)
      (hw : ∀ j : Fin 64, w (ix2 a j) = v (ix2 a ⟨q * 64 + j.val, by omega⟩)) (c : Fin 64) (hc : c.val = b.val % 64),
      unitChunk (F := Ideal) w (ix2 a c) = chunk (fun j => v (ix2 a j)) b := by
    intro q hq w hw c hc
    subst hq
    rw [unitChunk_at, chunk]
    have ec : (⟨b.val % 64, Nat.mod_lt _ (by decide)⟩ : Fin 64) = c := Fin.ext hc.symm
    rw [ec]
    exact congrFun (congrArg unit (funext hw)) c
  pointwise [codebook, joinChunks]
  by_cases h0 : b.val < 64
  · rw [dif_pos h0]
    exact key 0 (by omega) _ (fun j => by pointwise []) _ (by show b.val = _; omega)
  rw [dif_neg h0]
  by_cases h1 : b.val - 64 < 64
  · rw [dif_pos h1]
    exact key 1 (by omega) _ (fun j => by pointwise []) _ (by show b.val - 64 = _; omega)
  rw [dif_neg h1]
  by_cases h2 : b.val - 64 - 64 < 64
  · rw [dif_pos h2]
    exact key 2 (by omega) _ (fun j => by pointwise []) _ (by show b.val - 64 - 64 = _; omega)
  rw [dif_neg h2]
  exact key 3 (by omega) _ (fun j => by pointwise []) _ (by show b.val - 64 - 64 - 64 = _; omega)

/-- A soft value. -/
theorem softRows_at (w : FVec Ideal S9216x1024 .f32) (v : FVec Ideal S1024x256 .f32) (a : Fin 9216) (b : Fin 256) :
    softRows (F := Ideal) w v (ix2 a b) = ∑ y, w (ix2 a y) * v (ix2 y b) := by
  pointwise [softRows]

end Cert.ReferenceIdeal.Read

end
-- ==== Proof.RefBest.lean ====
/- The reference's row numbers and gathered rows read at an index. -/
module

public import proofs.«01_k».proof.Proof.RefRead
public import Idealize.ShloMosaic.Lib.Routing.Ops

@[expose] public section

set_option maxRecDepth 16384

noncomputable section

namespace Cert.ReferenceIdeal.Read

open Cert.ReferenceIdeal Cert.ReferenceIdeal.Gen Cert.ReferenceIdeal.Host Cert.Rows Idealize.ShloMosaic Idealize.ShloMosaic.TcCoe

/-- The argmax's step returns one of its two pairs, and one as good as both. -/
theorem step_best (p q : EReal × BitVec 32) :
    (reducer_argmax_f32_i32 (F := Ideal) p q = p ∨ reducer_argmax_f32_i32 (F := Ideal) p q = q)
      ∧ Beats (reducer_argmax_f32_i32 (F := Ideal) p q) p ∧ Beats (reducer_argmax_f32_i32 (F := Ideal) p q) q := by
  obtain ⟨a, i⟩ := p
  obtain ⟨b, j⟩ := q
  have e : reducer_argmax_f32_i32 (F := Ideal) (a, i) (b, j)
      = (if b < a then a else b, if b < a ∨ (a = b ∧ i.toInt < j.toInt) then i else j) := by
    have h1 : FloatOps.cmpf (F := Ideal) (φ := .f32) .ogt a b = BitVec.ofBool (decide (b < a)) := rfl
    have h2 : FloatOps.cmpf (F := Ideal) (φ := .f32) .une a a = BitVec.ofBool (decide (a ≠ a)) := rfl
    have h3 : FloatOps.cmpf (F := Ideal) (φ := .f32) .oeq a b = BitVec.ofBool (decide (a = b)) := rfl
    have h4 : IntOp.cmpi .slt i j = BitVec.ofBool (i.slt j) := rfl
    simp only [reducer_argmax_f32_i32, h1, h2, h3, h4]
    by_cases c1 : b < a <;> by_cases c3 : a = b <;> by_cases c4 : i.toInt < j.toInt <;>
      simp [c1, c3, c4, Scalar.select, IntOp.ori, IntOp.andi, BitVec.slt_eq_decide]
  rw [e]
  rcases lt_trichotomy b a with h | h | h
  · rw [if_pos h, if_pos (Or.inl h)]
    exact ⟨Or.inl rfl, Beats.refl _, Or.inl h⟩
  · subst h
    by_cases c : i.toInt < j.toInt
    · rw [if_neg (lt_irrefl b), if_pos (Or.inr ⟨rfl, c⟩)]
      exact ⟨Or.inl rfl, Beats.refl _, Or.inr ⟨rfl, le_of_lt c⟩⟩
    · rw [if_neg (lt_irrefl b), if_neg fun k => k.elim (lt_irrefl b) fun k => c k.2]
      exact ⟨Or.inr rfl, Or.inr ⟨rfl, not_lt.1 c⟩, Beats.refl _⟩
  · have h' : ¬ b < a := not_lt.2 h.le
    have h'' : a ≠ b := h.ne
    rw [if_neg h', if_neg fun k => k.elim h' fun k => h'' k.1]
    exact ⟨Or.inr rfl, Or.inl h, Beats.refl _⟩

/-- A two-operand reduction of an array of values and one of column numbers, at a row, by such a step, from minus infinity
    and zero: the second component is the first position of the row's largest entry. -/
theorem reduce2_best {n : Nat} {t u : Shape} (h : (⟨2, ![n, 1024]⟩ : Shape).ReducesTo [1] t) (hu : 0 < u.numel)
    (f : EReal × BitVec 32 → EReal × BitVec 32 → EReal × BitVec 32)
    (hf : ∀ p q, (f p q = p ∨ f p q = q) ∧ Beats (f p q) p ∧ Beats (f p q) q)
    (x : (⟨2, ![n, 1024]⟩ : Shape).Idx → EReal) (y : (⟨2, ![n, 1024]⟩ : Shape).Idx → BitVec 32)
    (hy : ∀ (a : Fin n) (l : Fin 1024), y (ix2 a l) = BitVec.ofNat 32 l.val)
    (ix : u.Idx → EReal) (iy : u.Idx → BitVec 32) (hix : ∀ k, ix k = lowest) (hiy : ∀ k, iy k = 0#32) (j : t.Idx)
    (a : Fin n) (ha : a.val = (j ⟨0, h.lt_r2_a1_0⟩).val) (b : Fin 1024) (hb : IsBest (fun l => x (ix2 a l)) b) :
    (Host.reduce2 f x y ix iy h hu j).2 = BitVec.ofNat 32 b.val := by
  have hfib : ∀ i, h.drop i = j ↔ ∃ l, ix2 a l = i := fun i => by
    rw [h.fiber_r2_a1 j i]
    have e : (⟨(j ⟨0, h.lt_r2_a1_0⟩).val, Shape.coordLt (j ⟨0, h.lt_r2_a1_0⟩) h.size_r2_a1_0⟩ : Fin n) = a := Fin.ext ha.symm
    rw [e]
  rw [Host.reduce2_eq_foldl_fiber, hix, hiy]
  refine foldl_best f hf _ (fun l => x (ix2 a l)) (fun p => ?_) b hb
  unfold Host.argReduceFiber
  simp only [List.mem_map, List.mem_filter, List.mem_finRange, true_and, decide_eq_true_eq, hfib]
  constructor
  · rintro ⟨n, ⟨l, hl⟩, rfl⟩
    rw [← hl]
    exact ⟨l, by rw [hy]⟩
  · rintro ⟨l, rfl⟩
    refine ⟨Shape.rowMajor _ (ix2 a l), ⟨l, ?_⟩, ?_⟩
    · rw [Equiv.symm_apply_apply]
    · rw [Equiv.symm_apply_apply, hy]

/-- The same for the host's arg-max, which at the extended reals is that reduction. -/
theorem argReduce_best {n : Nat} {t u : Shape} (h : (⟨2, ![n, 1024]⟩ : Shape).ReducesTo [1] t) (hu : 0 < u.numel)
    (f : Ideal .f32 × BitVec 32 → Ideal .f32 × BitVec 32 → Ideal .f32 × BitVec 32)
    (hf : ∀ p q : EReal × BitVec 32, (f p q = p ∨ f p q = q) ∧ Beats (f p q) p ∧ Beats (f p q) q)
    (x : FVec Ideal (⟨2, ![n, 1024]⟩ : Shape) .f32) (y : (⟨2, ![n, 1024]⟩ : Shape).Idx → BitVec 32)
    (hy : ∀ (a : Fin n) (l : Fin 1024), y (ix2 a l) = BitVec.ofNat 32 l.val)
    (ix : u.Idx → Ideal .f32) (iy : u.Idx → BitVec 32) (hix : ∀ k, ix k = lowest) (hiy : ∀ k, iy k = 0#32) (j : t.Idx)
    (a : Fin n) (ha : a.val = (j ⟨0, h.lt_r2_a1_0⟩).val) (b : Fin 1024) (hb : IsBest (fun l => x (ix2 a l)) b) :
    (Host.argReduce f x y ix iy h hu j).2 = BitVec.ofNat 32 b.val := by
  rw [Ideal.argReduce_eq_reduce2]
  exact reduce2_best h hu f hf x y hy ix iy hix hiy j a ha b hb

/-- The row numbers are the second components of the host's arg-max. -/
theorem argmaxRow_def (s : FVec Ideal S9216x1024 .f32) :
    argmaxRow (F := Ideal) s = fun j => (Host.argReduce (reducer_argmax_f32_i32 (F := Ideal)) s (iotaInDim S9216x1024 32 1)
      (constant (F := Ideal) S_ .f32 0xFF800000#32) (constantI S_ 32 0#32) reducesTo_S9216x1024_S9216_d1 h_S_ j).2 := rfl

/-- The row number of a row: the first position of its largest score. -/
theorem argmaxRow_at (s : FVec Ideal S9216x1024 .f32) (a : Fin 9216) (b : Fin 1024) (h : IsBest (fun l => s (ix2 a l)) b) :
    argmaxRow (F := Ideal) s (ix1 a) = BitVec.ofNat 32 b.val := by
  rw [argmaxRow_def]
  exact argReduce_best reducesTo_S9216x1024_S9216_d1 h_S_ (reducer_argmax_f32_i32 (F := Ideal)) step_best s (iotaInDim S9216x1024 32 1)
    (fun _ _ => rfl) (constant (F := Ideal) S_ .f32 0xFF800000#32) (constantI S_ 32 0#32) (fun _ => rfl) (fun _ => rfl) (ix1 a) a rfl b h

/-- `take`'s row number of a row whose number is one of the codebook's is that number. -/
theorem takeIdx_at (i : IVec S9216 32) (a : Fin 9216) (b : Fin 1024) (h : i (ix1 a) = BitVec.ofNat 32 b.val) :
    takeIdx (F := Ideal) i (ix2 a 0) = BitVec.ofNat 32 b.val := by
  pointwise [takeIdx]
  rw [h]
  clear h
  revert b
  decide +kernel

/-- Such a row number lies within the codebook. -/
theorem takeInside_at (q : IVec S9216x1 32) (a : Fin 9216) (b : Fin 1024) (h : q (ix2 a 0) = BitVec.ofNat 32 b.val) :
    takeInside (F := Ideal) q (ix1 a) = 1#1 := by
  have e : IntOp.andi (IntOp.cmpi .sge (q (ix2 a 0)) 0#32) (IntOp.cmpi .sle (q (ix2 a 0)) 1023#32) = 1#1 := by
    rw [h]; clear h; revert b; decide +kernel
  pointwise [takeInside]
  rw [Finset.univ_unique, Finset.fold_singleton]
  show IntOp.andi (IntOp.andi (IntOp.cmpi .sge (q (ix2 a 0)) 0#32) (IntOp.cmpi .sle (q (ix2 a 0)) 1023#32)) 1#1 = 1#1
  rw [e]
  decide

/-- A gathered row. -/
theorem hardRows_at (v : FVec Ideal S1024x256 .f32) (i : IVec S9216 32) (a : Fin 9216) (l : Fin 256) (b : Fin 1024)
    (h : i (ix1 a) = BitVec.ofNat 32 b.val) :
    hardRows (F := Ideal) v i (ix2 a l) = v (ix2 b l) := by
  pointwise [hardRows]
  rw [takeInside_at _ a b (takeIdx_at i a b h)]
  exact Routing.gather_row gather_S1024x256_S9216x1_S9216x256_1_0_n_n_0_1_1256 rfl rfl rfl rfl rfl v (takeIdx (F := Ideal) i) a l b
    (takeIdx_at i a b h) (by decide)

end Cert.ReferenceIdeal.Read

end
-- ==== Proof.RefOut.lean ====
/- The reference's four results read at an index. -/
module

public import proofs.«01_k».proof.Proof.RefBest

@[expose] public section

set_option maxRecDepth 16384

noncomputable section

namespace Cert.ReferenceIdeal.Read

open Cert.ReferenceIdeal Cert.ReferenceIdeal.Gen Cert.ReferenceIdeal.Host Cert.Rows Idealize.ShloMosaic Idealize.ShloMosaic.TcCoe

variable (x : FVec Ideal S16x576x256 .f32) (k : FVec Ideal S1024x256 .f32) (r : FVec Ideal S1024x1 .f32)
  (v : FVec Ideal S1024x256 .f32)

/-- The scores of query `b` of sequence `a`, one per key. -/
def scoreRow (a : Fin 16) (b : Fin 576) (l : Fin 1024) : EReal :=
  score (fun j => x (ix3 a b j)) (fun j => k (ix2 l j)) (r (ix2 l 0))

/-- Every score is a real number. -/
theorem scoreRow_real (a : Fin 16) (b : Fin 576) (l : Fin 1024) : IsReal (scoreRow x k r a b l) := score_real _ _ _

/-- The row of the scores' array that belongs to a query. -/
theorem scores_row (a : Fin 16) (b : Fin 576) :
    (fun l => scores (F := Ideal) x k r (ix2 ⟨a.val * 576 + b.val, by omega⟩ l)) = scoreRow x k r a b :=
  funext fun l => scores_at x k r _ a b rfl l

/-- The fourth result: the scores. -/
theorem outScore_at (a : Fin 16) (b : Fin 576) (l : Fin 1024) :
    outScore (F := Ideal) x k r (ix3 a b l) = scoreRow x k r a b l := by
  pointwise [outScore]
  exact scores_at x k r _ a b rfl l

/-- A vector of row numbers, one per query, read as a table of sequences by positions. -/
theorem castRow_at (i : IVec S9216 32) (a : Fin 16) (b : Fin 576) :
    shapeCast S16x576 i shapeCasts_S9216_S16x576 (ix2 a b) = i (ix1 ⟨a.val * 576 + b.val, by omega⟩) := by
  pointwise []

/-- The third result is the row numbers, reshaped. -/
theorem outIdx_def : outIdx (F := Ideal) x k r
    = shapeCast S16x576 (argmaxRow (F := Ideal) (scores (F := Ideal) x k r)) shapeCasts_S9216_S16x576 := rfl

/-- The third result: the first position of a query's largest score. -/
theorem outIdx_at (a : Fin 16) (b : Fin 576) (c : Fin 1024) (h : IsBest (scoreRow x k r a b) c) :
    outIdx (F := Ideal) x k r (ix2 a b) = BitVec.ofNat 32 c.val :=
  (congrFun (outIdx_def x k r) _).trans ((castRow_at _ a b).trans (argmaxRow_at _ _ c (by rw [scores_row]; exact h)))

/-- The second result: the codebook's row at that position. -/
theorem outHard_at (a : Fin 16) (b : Fin 576) (l : Fin 256) (c : Fin 1024) (h : IsBest (scoreRow x k r a b) c) :
    outHard (F := Ideal) x k r v (ix3 a b l) = chunk (fun j => v (ix2 c j)) l := by
  pointwise [outHard]
  exact (hardRows_at _ _ _ l c (argmaxRow_at _ _ c (by rw [scores_row]; exact h))).trans (codebook_at v c l)

/-- The first result: the softmax of a query's scores against the codebook. -/
theorem outSoft_at (a : Fin 16) (b : Fin 576) (l : Fin 256) :
    outSoft (F := Ideal) x k r v (ix3 a b l)
      = ∑ y, weight (scoreRow x k r a b) y * chunk (fun j => v (ix2 y j)) l := by
  pointwise [outSoft]
  refine (softRows_at _ _ _ l).trans (Finset.sum_congr rfl fun y _ => ?_)
  have hr : ∀ q, IsReal (scores (F := Ideal) x k r (ix2 ⟨a.val * 576 + b.val, by omega⟩ q)) := fun q => by
    rw [scores_at x k r _ a b rfl q]; exact score_real _ _ _
  exact congrArg₂ (· * ·) ((weights_at _ _ y hr).trans (by rw [scores_row])) (codebook_at v y l)

end Cert.ReferenceIdeal.Read

end
-- ==== Proof.Equation.lean ====
/- The equation: at every grid point each of the kernel's four blocks is the reference's result where the block sits, and so
   every array the kernel leaves is the reference's. -/
module

public import proofs.«01_k».proof.Proof.KernelRead
public import proofs.«01_k».proof.Proof.RefOut

@[expose] public section

set_option maxRecDepth 16384

noncomputable section

namespace Cert.KernelIdeal.Equation

open Cert.KernelIdeal Cert.KernelIdeal.Gen Cert.KernelIdeal.Points Cert.Rows Idealize.ShloMosaic Idealize.ShloMosaic.TcCoe Idealize.SL.Sem
open Cert.ReferenceIdeal.Host (outSoft outHard outIdx outScore)
open Cert.ReferenceIdeal.Read (scoreRow)

variable (m : (ℓ : Loc nD τ sig) → Buf (Elt Ideal) ℓ)

/-- The queries, at the start. -/
abbrev argX (c : Dev nD) : FVec Ideal S16x576x256 .f32 := m ((c : Thread nD τ).loc main_arg0)
/-- The keys, at the start. -/
abbrev argK (c : Dev nD) : FVec Ideal S1024x256 .f32 := m ((c : Thread nD τ).loc main_arg2)
/-- The keys' scales, at the start. -/
abbrev argR (c : Dev nD) : FVec Ideal S1024x1 .f32 := m ((c : Thread nD τ).loc main_arg3)
/-- The values, at the start. -/
abbrev argV (c : Dev nD) : FVec Ideal S1024x256 .f32 := m ((c : Thread nD τ).loc main_arg4)

/-- The grid has four points. -/
theorem point_lt (t : Fin cfg0.N) : t.val < 4 := (idx t).2.2.2.2.2.2.2.2

/-- The sequence that row `a` of point `t`'s block is. -/
def seqOf (t : Fin cfg0.N) (a : Fin 4) : Fin 16 := ⟨t.val * 4 + a.val, by have := point_lt t; omega⟩

/-- A query of a point's block is the query of the array where the block sits. -/
theorem query_at (c : Dev nD) (t : Fin cfg0.N) (a : Fin 4) (b : Fin 576) (j : Fin 256) :
    (iblk m c 0 t : FVec Ideal S4x576x256 .f32) (ix3 a b j) = argX m c (ix3 (seqOf t a) b j) := by
  blk_point [iblk, V, idx t, seqOf]

/-- The scores of a query of a point's block. -/
theorem scoreRow_at (c : Dev nD) (t : Fin cfg0.N) (a : Fin 4) (b : Fin 576) :
    (fun l : Fin 1024 => score (fun j => (iblk m c 0 t : FVec Ideal S4x576x256 .f32) (ix3 a b j)) (fun j => argK m c (ix2 l j)) (argR m c (ix2 l 0)))
      = scoreRow (argX m c) (argK m c) (argR m c) (seqOf t a) b := by
  simp only [query_at]
  rfl

/-- An entry of a point's block of soft values is the reference's where the block sits. -/
theorem soft_point (c : Dev nD) (t : Fin cfg0.N) (a : Fin 4) (b : Fin 576) (l : Fin 256) :
    softOf (iblk m c 0 t) (keysM m c) (codesM m c) (ix3 a b l)
      = outSoft (F := Ideal) (argX m c) (argK m c) (argR m c) (argV m c) (ix3 (seqOf t a) b l) := by
  rw [Cert.ReferenceIdeal.Read.outSoft_at, ← scoreRow_at m c t a b]
  exact Read.softBlock_at (iblk m c 0 t) (argK m c) (argR m c) (argV m c) a b l

/-- An entry of a point's block of chosen values is the reference's where the block sits. -/
theorem hard_point (c : Dev nD) (t : Fin cfg0.N) (a : Fin 4) (b : Fin 576) (l : Fin 256) :
    hardOf (iblk m c 0 t) (keysM m c) (codesM m c) (ix3 a b l)
      = outHard (F := Ideal) (argX m c) (argK m c) (argR m c) (argV m c) (ix3 (seqOf t a) b l) := by
  obtain ⟨q, hq⟩ := exists_best (scoreRow (argX m c) (argK m c) (argR m c) (seqOf t a) b) 0
  rw [Cert.ReferenceIdeal.Read.outHard_at _ _ _ _ _ _ _ q hq]
  exact Read.hardBlock_at (iblk m c 0 t) (argK m c) (argR m c) (argV m c) a b l q (by rw [scoreRow_at]; exact hq)

/-- An entry of a point's block of choices is the reference's where the block sits; the block has one axis more. -/
theorem idx_point (c : Dev nD) (t : Fin cfg0.N) (a : Fin 4) (b : Fin 576) :
    k0_pay10 (F := Ideal) (iblk m c 0 t) (keysM m c) (ix3 a 0 b)
      = outIdx (F := Ideal) (argX m c) (argK m c) (argR m c) (ix2 (seqOf t a) b) := by
  obtain ⟨q, hq⟩ := exists_best (scoreRow (argX m c) (argK m c) (argR m c) (seqOf t a) b) 0
  rw [Cert.ReferenceIdeal.Read.outIdx_at _ _ _ _ _ q hq]
  exact Read.idxBlock_at (iblk m c 0 t) (argK m c) (argR m c) a b q (by rw [scoreRow_at]; exact hq)

/-- An entry of a point's block of scores is the reference's where the block sits. -/
theorem score_point (c : Dev nD) (t : Fin cfg0.N) (a : Fin 4) (b : Fin 576) (l : Fin 1024) :
    k0_pay8 (F := Ideal) (iblk m c 0 t) (keysM m c) (ix3 a b l)
      = outScore (F := Ideal) (argX m c) (argK m c) (argR m c) (ix3 (seqOf t a) b l) := by
  rw [Cert.ReferenceIdeal.Read.outScore_at, ← scoreRow_at m c t a b]
  exact Read.scoreBlock_at (iblk m c 0 t) (argK m c) (argR m c) a b l

/-- The reference's choices, with the axis of size one the kernel's array has between the two. -/
def idxArr (c : Dev nD) : IVec S16x1x576 32 := fun i => outIdx (F := Ideal) (argX m c) (argK m c) (argR m c) (ix2 (i 0) (i 2))

/-- Where an entry of a point's block of soft values sits. -/
theorem emb_soft (t : Fin cfg0.N) (a : Fin 4) (b : Fin 576) (l : Fin 256) : (win0_4.blk t).view.emb (ix3 a b l) = ix3 (seqOf t a) b l := by
  funext d
  apply Fin.ext
  fin_cases d
  all_goals blk_simp [idx t, seqOf]
  all_goals rfl

/-- A point's block of soft values is the reference's where the block sits. -/
theorem soft_block (c : Dev nD) (t : Fin cfg0.N) (y : S4x576x256.Idx) :
    softOf (iblk m c 0 t) (keysM m c) (codesM m c) y
      = outSoft (F := Ideal) (argX m c) (argK m c) (argR m c) (argV m c) ((win0_4.blk t).view.emb y) := by
  obtain ⟨a, b, l, rfl⟩ : ∃ (a : Fin 4) (b : Fin 576) (l : Fin 256), y = ix3 a b l := ⟨y 0, y 1, y 2, eq_ix3 y⟩
  rw [emb_soft]
  exact soft_point m c t a b l

/-- The array of soft values the kernel leaves is the reference's. -/
theorem final_soft (c : Dev nD) : (dats m 0 c).arrAt 4 (cfgs 0).N
    = outSoft (F := Ideal) (argX m c) (argK m c) (argR m c) (argV m c) := by
  refine (dats m 0 c).arrAt_eq_of_covers 4 _ (by decide +kernel) fun t _ y => ?_
  blk_simp
  rw [after0_4, state m c t.val t.isLt]
  exact soft_block m c t y

/-- Where an entry of a point's block of chosen values sits. -/
theorem emb_hard (t : Fin cfg0.N) (a : Fin 4) (b : Fin 576) (l : Fin 256) : (win0_5.blk t).view.emb (ix3 a b l) = ix3 (seqOf t a) b l := by
  funext d
  apply Fin.ext
  fin_cases d
  all_goals blk_simp [idx t, seqOf]
  all_goals rfl

/-- A point's block of chosen values is the reference's where the block sits. -/
theorem hard_block (c : Dev nD) (t : Fin cfg0.N) (y : S4x576x256.Idx) :
    hardOf (iblk m c 0 t) (keysM m c) (codesM m c) y
      = outHard (F := Ideal) (argX m c) (argK m c) (argR m c) (argV m c) ((win0_5.blk t).view.emb y) := by
  obtain ⟨a, b, l, rfl⟩ : ∃ (a : Fin 4) (b : Fin 576) (l : Fin 256), y = ix3 a b l := ⟨y 0, y 1, y 2, eq_ix3 y⟩
  rw [emb_hard]
  exact hard_point m c t a b l

/-- The array of chosen values the kernel leaves is the reference's. -/
theorem final_hard (c : Dev nD) : (dats m 0 c).arrAt 5 (cfgs 0).N
    = outHard (F := Ideal) (argX m c) (argK m c) (argR m c) (argV m c) := by
  refine (dats m 0 c).arrAt_eq_of_covers 5 _ (by decide +kernel) fun t _ y => ?_
  blk_simp
  rw [after0_5, state m c t.val t.isLt]
  exact hard_block m c t y

/-- Where an entry of a point's block of choices sits. -/
theorem emb_idx (t : Fin cfg0.N) (a : Fin 4) (z : Fin 1) (b : Fin 576) : (win0_6.blk t).view.emb (ix3 a z b) = ix3 (seqOf t a) z b := by
  funext d
  apply Fin.ext
  fin_cases d
  all_goals blk_simp [idx t, seqOf]
  all_goals rfl

/-- A point's block of choices is the reference's where the block sits. -/
theorem idx_block (c : Dev nD) (t : Fin cfg0.N) (y : S4x1x576.Idx) :
    k0_pay10 (F := Ideal) (iblk m c 0 t) (keysM m c) y
      = idxArr m c ((win0_6.blk t).view.emb y) := by
  obtain ⟨a, z, b, rfl⟩ : ∃ (a : Fin 4) (z : Fin 1) (b : Fin 576), y = ix3 a z b := ⟨y 0, y 1, y 2, eq_ix3 y⟩
  obtain rfl : z = 0 := Subsingleton.elim _ _
  rw [emb_idx]
  exact idx_point m c t a b

/-- A point leaves its block of choices. -/
theorem after_idx (c : Dev nD) (t : Fin cfg0.N) : (dats m 0 c).after 6 t = k0_pay10 (F := Ideal) (iblk m c 0 t) (keysM m c) := by
  rw [after0_6, state m c t.val t.isLt]

/-- The array of choices the kernel leaves is the reference's. -/
theorem final_idx (c : Dev nD) : (dats m 0 c).arrAt 6 (cfgs 0).N
    = idxArr m c := by
  refine (dats m 0 c).arrAt_eq_of_covers 6 _ (by decide +kernel) fun t _ y => ?_
  blk_simp
  rw [after_idx]
  exact idx_block m c t y

/-- Where an entry of a point's block of scores sits. -/
theorem emb_score (t : Fin cfg0.N) (a : Fin 4) (b : Fin 576) (l : Fin 1024) : (win0_7.blk t).view.emb (ix3 a b l) = ix3 (seqOf t a) b l := by
  funext d
  apply Fin.ext
  fin_cases d
  all_goals blk_simp [idx t, seqOf]
  all_goals rfl

/-- A point's block of scores is the reference's where the block sits. -/
theorem score_block (c : Dev nD) (t : Fin cfg0.N) (y : S4x576x1024.Idx) :
    k0_pay8 (F := Ideal) (iblk m c 0 t) (keysM m c) y
      = outScore (F := Ideal) (argX m c) (argK m c) (argR m c) ((win0_7.blk t).view.emb y) := by
  obtain ⟨a, b, l, rfl⟩ : ∃ (a : Fin 4) (b : Fin 576) (l : Fin 1024), y = ix3 a b l := ⟨y 0, y 1, y 2, eq_ix3 y⟩
  rw [emb_score]
  exact score_point m c t a b l

/-- The array of scores the kernel leaves is the reference's. -/
theorem final_score (c : Dev nD) : (dats m 0 c).arrAt 7 (cfgs 0).N
    = outScore (F := Ideal) (argX m c) (argK m c) (argR m c) := by
  refine (dats m 0 c).arrAt_eq_of_covers 7 _ (by decide +kernel) fun t _ y => ?_
  blk_simp
  rw [after0_7, state m c t.val t.isLt]
  exact score_block m c t y

end Cert.KernelIdeal.Equation

end
-- ==== Proof.KernelRun.lean ====
/- The run of the kernel's program: its four results end at the reference's functions of the arguments, the choices after the
   reshape that drops the axis of size one. -/
module

public import proofs.«01_k».proof.Proof.Equation

@[expose] public section

set_option maxRecDepth 16384

noncomputable section

namespace Cert.KernelIdeal.Results

open Cert.KernelIdeal Cert.KernelIdeal.Gen Cert.KernelIdeal.Equation Idealize.ShloMosaic Idealize.ShloMosaic.TcCoe Idealize.ShloMosaic.StableHlo Idealize.SL.Sem
open Cert.ReferenceIdeal.Host (outSoft outHard outIdx outScore)

variable (m : (ℓ : Loc nD τ sig) → Buf (Elt Ideal) ℓ)

/-- The array of choices with its axis of size one dropped: each entry is the one at the same two coordinates. -/
theorem dropAxis_at (v : IVec S16x1x576 32) (a : Fin 16) (b : Fin 576) :
    shapeCast S16x576 v shapeCasts_S16x1x576_S16x576 (ix2 a b) = v (ix3 a 0 b) :=
  shapeCast_apply v _ (ix2 a b) (ix3 a 0 b) (by
    rw [Shape.rowMajor_val_three, Shape.rowMajor_val_two]
    show (a.val * 1 + 0) * 576 + b.val = a.val * 576 + b.val
    omega)

/-- The kernel's array of choices, its axis of size one dropped, is the reference's array of choices. -/
theorem reshape_idx (c : Dev nD) :
    shapeCast S16x576 (idxArr m c) shapeCasts_S16x1x576_S16x576 = outIdx (F := Ideal) (argX m c) (argK m c) (argR m c) := by
  funext j
  obtain ⟨a, b, rfl⟩ : ∃ (a : Fin 16) (b : Fin 576), j = ix2 a b := ⟨j 0, j 1, eq_ix2 j⟩
  exact dropAxis_at (idxArr m c) a b

/-- What the line after the launch leaves: the array of choices reshaped. -/
theorem after_tail (W : Valuation τ sig (Elt Ideal)) :
    after hostOps1 W (Proc.devRef .tc main_v1)
      = shapeCast S16x576 (W (Proc.devRef .tc main_v0_2) : IVec S16x1x576 32) shapeCasts_S16x1x576_S16x576 := by
  after_results
  rfl

/-- The array of choices, as the launch leaves it. -/
theorem launch_idx (c : Dev nD) :
    Pipeline.withArrays spec0 c (V0 m c) (fun w => (dats m 0 c).arrAt w (cfgs 0).N) (Proc.devRef .tc main_v0_2) = idxArr m c :=
  (Pipeline.withArrays_arr spec0 launch0.win.arr_inj c (V0 m c) (fun w => (dats m 0 c).arrAt w (cfgs 0).N) 6).trans (final_idx m c)

/-- After the reshape the buffer of the third result holds the reference's array of choices. -/
theorem tail_idx (c : Dev nD) :
    Pipeline.afterTail₀ cfgs (dats m) 0 (V0 m) [hostOps1] c main_v1 = outIdx (F := Ideal) (argX m c) (argK m c) (argR m c) :=
  (after_tail _).trans ((congrArg (fun v : IVec S16x1x576 32 => shapeCast S16x576 v shapeCasts_S16x1x576_S16x576) (launch_idx m c)).trans
    (reshape_idx m c))

/-- From any memory with zero counters, on every device: the kernel's program terminates with its four results at the reference's
    functions of the arguments' contents at the start, and the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = outSoft (F := Ideal) (argX m c) (argK m c) (argR m c) (argV m c)
      ∧ r.2.mem ((c.tc : Thread nD τ).loc main_v0_1) = outHard (F := Ideal) (argX m c) (argK m c) (argR m c) (argV m c)
      ∧ r.2.mem ((c.tc : Thread nD τ).loc main_v1) = outIdx (F := Ideal) (argX m c) (argK m c) (argR m c)
      ∧ r.2.mem ((c.tc : Thread nD τ).loc main_v0_3) = outScore (F := Ideal) (argX m c) (argK m c) (argR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1 c).1 4).trans (final_soft m c), ((h.1 c).1 5).trans (final_hard m c),
        ((h.1 c).2 main_v1 (Pipeline.mem_restRefs_of main_v1 (by decide) (by decide))).trans (tail_idx m c),
        ((h.1 c).1 7).trans (final_score m c), h.2 c⟩)
    (θ_run_and (run_main m ρ) (unchanged m ρ))

end Cert.KernelIdeal.Results

end
-- ==== Proof.lean ====
module

public import proofs.«01_k».proof.Defs
public import proofs.«01_k».proof.Proof.Gen.Kernel.Frame
public import proofs.«01_k».proof.Proof.KernelRun
public import Idealize.ShloMosaic.Adequacy
public import Idealize.ShloMosaic.Init

@[expose] public section

noncomputable section

namespace Cert.Proof

open Idealize.ShloMosaic Idealize.SL.Sem

/-- The reference terminates, leaves its arguments as they were and every semaphore counter at zero. -/
theorem frame_reference : Cert.quiescent_ReferenceIdeal (hReferenceIdeal := Cert.ReferenceIdeal.Gen.facts) := fun m ρ _ =>
  (θ_run _ _ _).mono (fun r h => ⟨fun c => (h c).2.2.2.2, sem_eq_zero_of_no_sems (by decide) r.2⟩)
    (Cert.ReferenceIdeal.Host.run (F := Ideal) m ρ)

/-- The idealized kernel is the kernel with its literal ten named: the reciprocal of the divisor the reference prints. -/
theorem preserves : Cert.preserves_Kernel_KernelIdeal :=
  IdealRules.named_const.statement Cert.KernelIdeal.κ "inv_kt" .f32 0x41200000#32 ((134217728 / 13421773 : ℝ) : EReal) rfl

/-- Over the reals, from the same arguments, the idealized kernel and the reference end with the same four results: the soft
    values, the chosen values, the choices and the scores. -/
theorem algebraic : Cert.algebraic_KernelIdeal_ReferenceIdeal
    (hKernelIdeal := Cert.KernelIdeal.Gen.facts) (hReferenceIdeal := Cert.ReferenceIdeal.Gen.facts) := fun m g m' g' _ hargs =>
  ⟨_, _, _, _, Cert.KernelIdeal.Results.run m g,
    (θ_run _ _ _).mono (fun r h c => by
      obtain ⟨h0, h1, h2, h3, h4⟩ := h c
      obtain ⟨a0, _, a2, a3, a4⟩ := hargs c
      refine ⟨h0.trans ?_, h1.trans ?_, h2.trans ?_, h3.trans ?_, h4⟩
      · rw [a0, a2, a3, a4]
      · rw [a0, a2, a3, a4]
      · rw [a0, a2, a3]
      · rw [a0, a2, a3]) (Cert.ReferenceIdeal.Host.run (F := Ideal) m' g')⟩

/-- The certificate's claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, preserves, algebraic⟩

end Cert.Proof

end
